-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_node_table [hPre_node_table : Cert.Pre_node_table.Facts] (m : (ℓ : Loc Cert.KernelIdeal.nD Cert.KernelIdeal.τ Cert.KernelIdeal.sig) → Buf (Elt Ideal) ℓ) : Prop :=
  ∀ c : Dev Cert.KernelIdeal.nD,
    (Cert.Pre_node_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_node_table [hPre_node_table : Cert.Pre_node_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_node_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_node_table [hKernelIdeal : Cert.KernelIdeal.Facts] [hPre_node_table : Cert.Pre_node_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_node_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_node_table [hReferenceIdeal : Cert.ReferenceIdeal.Facts] [hPre_node_table : Cert.Pre_node_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_node_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_node_table [hKernelIdeal : Cert.KernelIdeal.Facts] [hReferenceIdeal : Cert.ReferenceIdeal.Facts] [hPre_node_table : Cert.Pre_node_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_node_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_node_table : Cert.Pre_node_table.Facts),
    quiescent_Kernel (hKernel := hKernel)
    ∧ quiescent_KernelIdeal (hKernelIdeal := hKernelIdeal)
    ∧ quiescent_KernelIdeal_pre_node_table (hKernelIdeal := hKernelIdeal) (hPre_node_table := hPre_node_table)
    ∧ quiescent_ReferenceIdeal (hReferenceIdeal := hReferenceIdeal)
    ∧ quiescent_ReferenceIdeal_pre_node_table (hReferenceIdeal := hReferenceIdeal) (hPre_node_table := hPre_node_table)
    ∧ preserves_Kernel_KernelIdeal
    ∧ algebraic_KernelIdeal_ReferenceIdeal_pre_node_table (hKernelIdeal := hKernelIdeal) (hReferenceIdeal := hReferenceIdeal) (hPre_node_table := hPre_node_table)
-- ==== Pre_node_table.lean ====
abbrev S256x256 : Shape := ⟨2, ![256, 256]⟩
abbrev S768x256 : Shape := ⟨2, ![768, 256]⟩
abbrev S768 : Shape := ⟨1, ![768]⟩
abbrev S512x1 : Shape := ⟨2, ![512, 1]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S256x256 .f32) (main_arg1 : FVec F S256x256 .f32) (main_arg2 : FVec F S768x256 .f32) (main_arg3 : FVec F S768x256 .f32) (main_arg4 : FVec F S768 .f32) (main_arg5 : FVec F S768 .f32) (main_arg6 : FVec F S512x1 .f32) (main_arg7 : IVec S128 32) (main_arg8 : IVec S128 32) (main_arg9 : IVec S128 32) : IVec S_ 1 :=
  let main_v0 : IVec S128 32 := iotaInDim S128 32 0
  let main_v1 : IVec S128 1 := cmpi .eq main_arg7 main_v0
  let main_c : IVec S_ 32 := constantI S_ 32 1#32
  let main_v2 : IVec S128 32 := broadcastInDim S128 ![] bcast_S_S128 main_c
  let main_v3 : IVec S128 32 := addi main_v0 main_v2
  let main_v4 : IVec S128 1 := cmpi .eq main_arg8 main_v3
  let main_v5 : IVec S128 1 := andi main_v1 main_v4
  let main_c_0 : IVec S_ 32 := constantI S_ 32 2#32
  let main_v6 : IVec S128 32 := broadcastInDim S128 ![] bcast_S_S128 main_c_0
  let main_v7 : IVec S128 32 := addi main_v0 main_v6
  let main_v8 : IVec S128 1 := cmpi .eq main_arg9 main_v7
  let main_v9 : IVec S128 1 := andi main_v5 main_v8
  let main_c_1 : IVec S_ 1 := constantI S_ 1 1#1
  let main_v10 : IVec S_ 1 := (fun x v => Host.reduce IntOp.andi x v reducesTo_S128_S_d0 h_S_) main_v9 main_c_1
  main_v10
-- ==== Kernel.lean ====
abbrev S256x256 : Shape := ⟨2, ![256, 256]⟩
abbrev S768x256 : Shape := ⟨2, ![768, 256]⟩
abbrev S768 : Shape := ⟨1, ![768]⟩
abbrev S512x1 : Shape := ⟨2, ![512, 1]⟩
abbrev S128 : Shape := ⟨1, ![128]⟩
abbrev S136x256 : Shape := ⟨2, ![136, 256]⟩
abbrev S256 : Shape := ⟨1, ![256]⟩
abbrev S128x256 : Shape := ⟨2, ![128, 256]⟩
abbrev S1x256 : Shape := ⟨2, ![1, 256]⟩
abbrev S256x1 : Shape := ⟨2, ![256, 1]⟩
abbrev S128x1 : Shape := ⟨2, ![128, 1]⟩
abbrev S1x128 : Shape := ⟨2, ![1, 128]⟩

abbrev nBuf : Space → Nat
  | .hbm => 11
  | .vmem => 14
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S512x1, .f32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S256x256, .f32⟩
  | .local _ .vmem, ⟨0, _⟩ => ⟨S136x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S512x1, .f32⟩
  | .local _ .vmem, ⟨11, _⟩ => ⟨S256x256, .f32⟩
  | .local _ .vmem, ⟨12, _⟩ => ⟨S128x256, .f32⟩
  | .local _ .vmem, ⟨13, _⟩ => ⟨S128x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![3], ![false]⟩

def k0_cond3 (i : grid0.Coords) : BitVec 1 :=
  let arg0 : BitVec 32 := BitVec.ofNat 32 (i 0).val
  let c2_i32 : BitVec 32 := 2#32
  let v20 : BitVec 1 := Scalar.cmpi .eq arg0 c2_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S136x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S256x256 : Shape := ⟨2, ![256, 256]⟩
abbrev S768x256 : Shape := ⟨2, ![768, 256]⟩
abbrev S768 : Shape := ⟨1, ![768]⟩
abbrev S512x1 : Shape := ⟨2, ![512, 1]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x256 : Shape := ⟨2, ![128, 256]⟩
abbrev S256x768 : Shape := ⟨2, ![256, 768]⟩
abbrev S128x768 : Shape := ⟨2, ![128, 768]⟩
abbrev S1x768 : Shape := ⟨2, ![1, 768]⟩
abbrev S1x256x1x256 : Shape := ⟨4, ![1, 256, 1, 256]⟩
abbrev S1x256x256x256 : Shape := ⟨4, ![1, 256, 256, 256]⟩
abbrev S256x65536 : Shape := ⟨2, ![256, 65536]⟩
abbrev S65536x256 : Shape := ⟨2, ![65536, 256]⟩
abbrev S256x256x1x256 : Shape := ⟨4, ![256, 256, 1, 256]⟩
abbrev S65536x512 : Shape := ⟨2, ![65536, 512]⟩
abbrev S256x256x512 : Shape := ⟨3, ![256, 256, 512]⟩
abbrev S256x256x1 : Shape := ⟨3, ![256, 256, 1]⟩
abbrev S256 : Shape := ⟨1, ![256]⟩
abbrev S256x1 : Shape := ⟨2, ![256, 1]⟩

abbrev nBuf : Space → Nat
  | .hbm => 152
  | .vmem => 0
  | .smem => 0
  | _ => 0

abbrev hbmTy0_0 (i : Nat) : BufTy := match i % 128 with
  | 0 => ⟨S256x256, .f32⟩
  | 1 => ⟨S256x256, .f32⟩
  | 2 => ⟨S768x256, .f32⟩
  | 3 => ⟨S768x256, .f32⟩
  | 4 => ⟨S768, .f32⟩
  | 5 => ⟨S768, .f32⟩
  | 6 => ⟨S512x1, .f32⟩
  | 7 => ⟨S128, .i32⟩
  | 8 => ⟨S128, .i32⟩
  | 9 => ⟨S128, .i32⟩
  | 10 => ⟨S_, .i32⟩
  | 11 => ⟨S128, .i32⟩
  | 12 => ⟨S128, .i1⟩
  | 13 => ⟨S_, .i32⟩
  | 14 => ⟨S128, .i32⟩
  | 15 => ⟨S128, .i32⟩
  | 16 => ⟨S128, .i32⟩
  | 17 => ⟨S128x1, .i32⟩
  | 18 => ⟨S1, .i32⟩
  | 19 => ⟨S_, .i32⟩
  | 20 => ⟨S128x1, .i32⟩
  | 21 => ⟨S128x1, .i1⟩
  | 22 => ⟨S1x1, .i32⟩
  | 23 => ⟨S128x1, .i32⟩
  | 24 => ⟨S128x1, .i1⟩
  | 25 => ⟨S128x1, .i1⟩
  | 26 => ⟨S_, .i1⟩
  | 27 => ⟨S128, .i1⟩
  | 28 => ⟨S128x256, .f32⟩
  | 29 => ⟨S128x256, .i1⟩
  | 30 => ⟨S_, .f32⟩
  | 31 => ⟨S128x256, .f32⟩
  | 32 => ⟨S128x256, .f32⟩
  | 33 => ⟨S_, .i32⟩
  | 34 => ⟨S128, .i32⟩
  | 35 => ⟨S128, .i1⟩
  | 36 => ⟨S_, .i32⟩
  | 37 => ⟨S128, .i32⟩
  | 38 => ⟨S128, .i32⟩
  | 39 => ⟨S128, .i32⟩
  | 40 => ⟨S128x1, .i32⟩
  | 41 => ⟨S1, .i32⟩
  | 42 => ⟨S_, .i32⟩
  | 43 => ⟨S128x1, .i32⟩
  | 44 => ⟨S128x1, .i1⟩
  | 45 => ⟨S1x1, .i32⟩
  | 46 => ⟨S128x1, .i32⟩
  | 47 => ⟨S128x1, .i1⟩
  | 48 => ⟨S128x1, .i1⟩
  | 49 => ⟨S_, .i1⟩
  | 50 => ⟨S128, .i1⟩
  | 51 => ⟨S128x256, .f32⟩
  | 52 => ⟨S128x256, .i1⟩
  | 53 => ⟨S_, .f32⟩
  | 54 => ⟨S128x256, .f32⟩
  | 55 => ⟨S128x256, .f32⟩
  | 56 => ⟨S256x768, .f32⟩
  | 57 => ⟨S128x768, .f32⟩
  | 58 => ⟨S1x768, .f32⟩
  | 59 => ⟨S128x768, .f32⟩
  | 60 => ⟨S128x768, .f32⟩
  | 61 => ⟨S256x768, .f32⟩
  | 62 => ⟨S128x768, .f32⟩
  | 63 => ⟨S1x768, .f32⟩
  | 64 => ⟨S128x768, .f32⟩
  | 65 => ⟨S128x768, .f32⟩
  | 66 => ⟨S128x256, .f32⟩
  | 67 => ⟨S128x256, .f32⟩
  | 68 => ⟨S128x256, .f32⟩
  | 69 => ⟨S128x256, .f32⟩
  | 70 => ⟨S128x256, .f32⟩
  | 71 => ⟨S128x256, .f32⟩
  | 72 => ⟨S128x256, .f32⟩
  | 73 => ⟨S128x256, .f32⟩
  | 74 => ⟨S128x256, .f32⟩
  | 75 => ⟨S_, .f32⟩
  | 76 => ⟨S128x256, .f32⟩
  | 77 => ⟨S128x256, .f32⟩
  | 78 => ⟨S_, .f32⟩
  | 79 => ⟨S128x256, .f32⟩
  | 80 => ⟨S128x256, .f32⟩
  | 81 => ⟨S128x256, .f32⟩
  | 82 => ⟨S128x256, .f32⟩
  | 83 => ⟨S128x256, .f32⟩
  | 84 => ⟨S_, .f32⟩
  | 85 => ⟨S128x256, .f32⟩
  | 86 => ⟨S128x256, .f32⟩
  | 87 => ⟨S_, .f32⟩
  | 88 => ⟨S128x256, .f32⟩
  | 89 => ⟨S128x256, .f32⟩
  | 90 => ⟨S128x256, .f32⟩
  | 91 => ⟨S128x256, .f32⟩
  | 92 => ⟨S128x256, .f32⟩
  | 93 => ⟨S_, .f32⟩
  | 94 => ⟨S128x256, .f32⟩
  | 95 => ⟨S128x256, .f32⟩
  | 96 => ⟨S128x256, .f32⟩
  | 97 => ⟨S128x256, .f32⟩
  | 98 => ⟨S128x256, .f32⟩
  | 99 => ⟨S_, .f32⟩
  | 100 => ⟨S256x256, .f32⟩
  | 101 => ⟨S_, .i32⟩
  | 102 => ⟨S128, .i32⟩
  | 103 => ⟨S128, .i1⟩
  | 104 => ⟨S_, .i32⟩
  | 105 => ⟨S128, .i32⟩
  | 106 => ⟨S128, .i32⟩
  | 107 => ⟨S128, .i32⟩
  | 108 => ⟨S128x1, .i32⟩
  | 109 => ⟨S256x256, .f32⟩
  | 110 => ⟨S1x256x1x256, .f32⟩
  | 111 => ⟨S1x256x256x256, .f32⟩
  | 112 => ⟨S256x65536, .f32⟩
  | 113 => ⟨S65536x256, .f32⟩
  | 114 => ⟨S1x256x1x256, .f32⟩
  | 115 => ⟨S256x256x1x256, .f32⟩
  | 116 => ⟨S65536x256, .f32⟩
  | 117 => ⟨S65536x512, .f32⟩
  | 118 => ⟨S256x256x512, .f32⟩
  | 119 => ⟨S256x256x1, .f32⟩
  | 120 => ⟨S256x256, .f32⟩
  | 121 => ⟨S_, .f32⟩
  | 122 => ⟨S_, .f32⟩
  | 123 => ⟨S256x256, .f32⟩
  | 124 => ⟨S256x256, .i1⟩
  | 125 => ⟨S_, .f32⟩
  | 126 => ⟨S256x256, .f32⟩
  | 127 => ⟨S256x256, .f32⟩
  | _ => ⟨S256x256, .f32⟩

abbrev hbmTy0_1 (i : Nat) : BufTy := match i % 128 with
  | 0 => ⟨S256x256, .f32⟩
  | 1 => ⟨S_, .f32⟩
  | 2 => ⟨S256x256, .f32⟩
  | 3 => ⟨S_, .f32⟩
  | 4 => ⟨S256x256, .f32⟩
  | 5 => ⟨S256x256, .f32⟩
  | 6 => ⟨S_, .f32⟩
  | 7 => ⟨S256x256, .f32⟩
  | 8 => ⟨S256x256, .i1⟩
  | 9 => ⟨S256x256, .f32⟩
  | 10 => ⟨S_, .f32⟩
  | 11 => ⟨S256, .f32⟩
  | 12 => ⟨S_, .f32⟩
  | 13 => ⟨S256, .f32⟩
  | 14 => ⟨S256, .f32⟩
  | 15 => ⟨S256x1, .f32⟩
  | 16 => ⟨S256x256, .f32⟩
  | 17 => ⟨S256x256, .f32⟩
  | 18 => ⟨S256x256, .f32⟩
  | 19 => ⟨S_, .f32⟩
  | 20 => ⟨S256, .f32⟩
  | 21 => ⟨S256x1, .f32⟩
  | 22 => ⟨S256x256, .f32⟩
  | 23 => ⟨S256x256, .f32⟩
  | _ => ⟨S256x256, .f32⟩

abbrev hbmTy (i : Nat) : BufTy := match i / 128 with
  | 0 => hbmTy0_0 i
  | 1 => hbmTy0_1 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst : Ref sig .tc := ⟨.hbm, 75, rfl⟩
abbrev main_v21 : Ref sig .tc := ⟨.hbm, 76, rfl⟩
abbrev main_v22 : Ref sig .tc := ⟨.hbm, 77, rfl⟩
abbrev main_cst_0 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_cst_1 : Ref sig .tc := ⟨.hbm, 84, rfl⟩
abbrev main_v28 : Ref sig .tc := ⟨.hbm, 85, rfl⟩
abbrev main_v29 : Ref sig .tc := ⟨.hbm, 86, rfl⟩
abbrev main_cst_2 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_cst_3 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_4 : Ref sig .tc := ⟨.hbm, 99, rfl⟩
abbrev main_v40 : Ref sig .tc := ⟨.hbm, 100, rfl⟩
abbrev main_c : Ref sig .tc := ⟨.hbm, 101, rfl⟩
abbrev main_v41 : Ref sig .tc := ⟨.hbm, 102, rfl⟩
abbrev main_v42 : Ref sig .tc := ⟨.hbm, 103, rfl⟩
abbrev main_c_5 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_6 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_call2_v3 : Ref sig .tc := ⟨.hbm, 126, rfl⟩
abbrev main_call2_v4 : Ref sig .tc := ⟨.hbm, 127, rfl⟩
abbrev main_v59 : Ref sig .tc := ⟨.hbm, 128, rfl⟩
abbrev main_cst_7 : Ref sig .tc := ⟨.hbm, 129, rfl⟩
abbrev main_v60 : Ref sig .tc := ⟨.hbm, 130, rfl⟩
abbrev main_cst_8 : Ref sig .tc := ⟨.hbm, 131, rfl⟩
abbrev main_v61 : Ref sig .tc := ⟨.hbm, 132, rfl⟩
abbrev main_v62 : Ref sig .tc := ⟨.hbm, 133, rfl⟩
abbrev main_cst_9 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_cst_10 : Ref sig .tc := ⟨.hbm, 138, rfl⟩
abbrev main_v66 : Ref sig .tc := ⟨.hbm, 139, rfl⟩
abbrev main_cst_11 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_cst_12 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩

abbrev nD : Nat := 1
abbrev τ : Topo := Topo.v7x

variable {F : FTy → Type} [FloatOps F]
-- ==== Proof.Points.lean ====
/- The three grid points of the kernel: which of its conditionals each one takes, the memrefs the body is called on there,
   and the two scratch buffers its invariant speaks of. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.WholeRead
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The body's test `i = k` on the grid coordinate, as its first two conditionals spell it. -/
abbrev isGate (k : BitVec 32) (i : grid0.Coords) : Prop :=
  (Scalar.cmpi .ne (Scalar.extui (Scalar.cmpi .eq (BitVec.ofNat 32 (i 0).val) k)) 0#32) = 1#1

/-- The grid has one axis: the coordinate of point `t` is `t`. -/
theorem coord_val (t : Fin grid0.N) : (grid0.coords t 0).val = t.val := by
  have ht : t.val < 3 := Nat.lt_of_lt_of_eq t.isLt N_0
  have e : (grid0.coords t 0).val = t.val / 1 % 3 := Pipeline.Grid.coords_val t 0 (by decide) rfl
  omega

/-- The first conditional is taken at point 0 alone. -/
theorem isGate_zero (t : Fin grid0.N) : isGate 0#32 (grid0.coords t) ↔ t.val = 0 := by
  have ht : t.val < 3 := Nat.lt_of_lt_of_eq t.isLt N_0
  simp only [isGate, coord_val]
  word_cmp

/-- The second conditional is taken at point 1 alone. -/
theorem isGate_one (t : Fin grid0.N) : isGate 1#32 (grid0.coords t) ↔ t.val = 1 := by
  have ht : t.val < 3 := Nat.lt_of_lt_of_eq t.isLt N_0
  simp only [isGate, coord_val]
  word_cmp

/-- The third conditional is taken at point 2 alone. -/
theorem isLast (t : Fin grid0.N) : k0_cond3 (grid0.coords t) = 1#1 ↔ t.val = 2 := by
  have ht : t.val < 3 := Nat.lt_of_lt_of_eq t.isLt N_0
  simp only [k0_cond3, coord_val]
  word_cmp

/-- The scratch buffer that keeps the reset gate. -/
abbrev resetBuf : Memref sig .tc .vmem S128x256 .f32 := Memref.whole cc0_scratch0
/-- The scratch buffer that keeps the update gate. -/
abbrev updateBuf : Memref sig .tc .vmem S128x256 .f32 := Memref.whole cc0_scratch1

/-- What surrounds the pipeline: the two scratch buffers at some contents, and the generator's register. -/
theorem around_eq (c : Dev nD) :
    (Pipeline.ΦA spec0 c : sProp 𝕄)
      = iprop(iprop((∃ d, owns (c : Thread nD τ) resetBuf fullShare d) ∗ (∃ d, owns (c : Thread nD τ) updateBuf fullShare d)) ∗ (∃ r, prngReg c r)) := by
  unfold Pipeline.ΦA; rw [scopedRest0_eq]; simp only [resetBuf, updateBuf, owns_whole]; rfl

end Cert.KernelIdeal.Attn

end
-- ==== Proof.Body.lean ====
/- What one run of the kernel's body does, at each of the three points of its grid: the two gate points store a gate in a
   scratch buffer, the last point reads both and stores the attention matrix. -/
module

public import proofs.«01_k».proof.Proof.Points

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The rows 1 to 128 of the block of inputs: the left neighbours. -/
def leftRows (x : Vec F S136x256 .f32) : Vec F S128x256 .f32 :=
  View.ld x (Rect.unit (s := S136x256) ![1, 0] S128x256.size inb_S136x256_S128x256_1_0)
/-- The rows 2 to 129 of the block of inputs: the right neighbours. -/
def rightRows (x : Vec F S136x256 .f32) : Vec F S128x256 .f32 :=
  View.ld x (Rect.unit (s := S136x256) ![2, 0] S128x256.size inb_S136x256_S128x256_2_0)
/-- The upper half of the attention vector. -/
def upperHalf (x : Vec F S512x1 .f32) : Vec F S256x1 .f32 :=
  View.ld x (Rect.unit (s := S512x1) ![0, 0] S256x1.size inb_S512x1_S256x1_0_0)
/-- The lower half of the attention vector. -/
def lowerHalf (x : Vec F S512x1 .f32) : Vec F S256x1 .f32 :=
  View.ld x (Rect.unit (s := S512x1) ![256, 0] S256x1.size inb_S512x1_S256x1_256_0)

/-- The gate a gate point stores, from the blocks it is given: inputs, input weights, hidden weights and their biases. -/
def gateOf (x : Vec F S136x256 .f32) (wi wh : Vec F S256x256 .f32) (bi bh : Vec F S256 .f32) : Vec F S128x256 .f32 :=
  k0_pay3 (leftRows x) (rightRows x) wi wh bi bh
/-- The attention matrix the last point stores, from its blocks and the two gates kept in scratch. -/
def attnOf (x : Vec F S136x256 .f32) (adj : Vec F S256x256 .f32) (wi wh : Vec F S256x256 .f32) (bi bh : Vec F S256 .f32)
    (a : Vec F S512x1 .f32) (r z : Vec F S128x256 .f32) : Vec F S256x256 .f32 :=
  k0_pay5 (leftRows x) (rightRows x) wi wh bi bh r z (upperHalf a) (lowerHalf a) adj

/-- A load of all of a matrix is the matrix. -/
theorem ld_all2 (x : Vec F S256x256 .f32) :
    View.ld x (Rect.unit (s := S256x256) ![0, 0] S256x256.size inb_S256x256_S256x256_0_0) = x :=
  View.ld_unit_zero (S := S256x256) (by decide) _ x
/-- A load of all of a gate is the gate. -/
theorem ld_all_gate (x : Vec F S128x256 .f32) :
    View.ld x (Rect.unit (s := S128x256) ![0, 0] S128x256.size inb_S128x256_S128x256_0_0) = x :=
  View.ld_unit_zero (S := S128x256) (by decide) _ x
/-- A load of all of a bias is the bias. -/
theorem ld_all1 (x : Vec F S256 .f32) :
    View.ld x (Rect.unit (s := S256) ![0] S256.size inb_S256_S256_0) = x :=
  View.ld_unit_zero (S := S256) (by decide) _ x

section runs

variable (c : Dev nD) (i : grid0.Coords)
  (arg1 : Memref sig .tc .vmem S136x256 .f32) (harg1 : arg1.IsWhole) (arg2 : Memref sig .tc .vmem S256x256 .f32) (harg2 : arg2.IsWhole)
  (arg3 : Memref sig .tc .vmem S256x256 .f32) (harg3 : arg3.IsWhole) (arg4 : Memref sig .tc .vmem S256x256 .f32) (harg4 : arg4.IsWhole)
  (arg5 : Memref sig .tc .vmem S256 .f32) (harg5 : arg5.IsWhole) (arg6 : Memref sig .tc .vmem S256 .f32) (harg6 : arg6.IsWhole)
  (arg7 : Memref sig .tc .vmem S512x1 .f32) (harg7 : arg7.IsWhole) (arg8 : Memref sig .tc .vmem S256x256 .f32) (harg8 : arg8.IsWhole)
  (arg9 : Memref sig .tc .vmem S128x256 .f32) (harg9 : arg9.IsWhole) (arg10 : Memref sig .tc .vmem S128x256 .f32) (harg10 : arg10.IsWhole)
  (x : Vec F S136x256 .f32) (wi wh : Vec F S256x256 .f32) (bi bh : Vec F S256 .f32)

set_option maxHeartbeats 1000000 in
/-- Point 0: the body stores the reset gate in the first scratch buffer and leaves its inputs in place. -/
theorem run_reset (hc0 : isGate 0#32 i) (hc1 : ¬isGate 1#32 i) (hc2 : ¬k0_cond3 i = 1#1) (E : Set ℕ) (K : PUnit → sProp 𝕄) :
    iprop(owns (c : Thread nD τ) arg1 fullShare x ∗ owns (c : Thread nD τ) arg3 fullShare wi ∗ owns (c : Thread nD τ) arg4 fullShare wh
        ∗ owns (c : Thread nD τ) arg5 fullShare bi ∗ owns (c : Thread nD τ) arg6 fullShare bh ∗ (∃ d, owns (c : Thread nD τ) arg9 fullShare d)
        ∗ (iprop(owns (c : Thread nD τ) arg1 fullShare x ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg9 fullShare (gateOf x wi wh bi bh)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg3.eq_unread hf2; obtain rfl := harg4.eq_unread hf3
  obtain rfl := harg5.eq_unread hf4; obtain rfl := harg6.eq_unread hf5
  sl_exec (disch := first | sl_exact hc0 | sl_exact hc1 | sl_exact hc2)
  sl_step
  iapply Hk
  isplitl [H0]
  · iexists _; isplitr; · ipureintro; exact harg1.read_unread _
    iexact H0
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; swap; · iexact HS
  ipureintro
  simp only [View.readAt_eq_ld, Memref.IsWhole.read_unread]
  refine (View.read_writes_full arg9.view _ _ _ _).trans ?_
  rw [ld_all2, ld_all2, ld_all1, ld_all1]
  rfl

set_option maxHeartbeats 1000000 in
/-- Point 1: the body stores the update gate in the second scratch buffer and leaves its inputs in place. -/
theorem run_update (hc0 : ¬isGate 0#32 i) (hc1 : isGate 1#32 i) (hc2 : ¬k0_cond3 i = 1#1) (E : Set ℕ) (K : PUnit → sProp 𝕄) :
    iprop(owns (c : Thread nD τ) arg1 fullShare x ∗ owns (c : Thread nD τ) arg3 fullShare wi ∗ owns (c : Thread nD τ) arg4 fullShare wh
        ∗ owns (c : Thread nD τ) arg5 fullShare bi ∗ owns (c : Thread nD τ) arg6 fullShare bh ∗ (∃ d, owns (c : Thread nD τ) arg10 fullShare d)
        ∗ (iprop(owns (c : Thread nD τ) arg1 fullShare x ∗ owns (c : Thread nD τ) arg3 fullShare wi ∗ owns (c : Thread nD τ) arg4 fullShare wh
            ∗ owns (c : Thread nD τ) arg5 fullShare bi ∗ owns (c : Thread nD τ) arg6 fullShare bh
            ∗ owns (c : Thread nD τ) arg10 fullShare (gateOf x wi wh bi bh)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg3.eq_unread hf2; obtain rfl := harg4.eq_unread hf3
  obtain rfl := harg5.eq_unread hf4; obtain rfl := harg6.eq_unread hf5
  sl_exec (disch := first | sl_exact hc0 | sl_exact hc1 | sl_exact hc2)
  sl_step
  iapply Hk
  isplitl [H0]
  · iexists _; isplitr; · ipureintro; exact harg1.read_unread _
    iexact H0
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr; swap; · iexact HS
  ipureintro
  simp only [View.readAt_eq_ld, Memref.IsWhole.read_unread]
  refine (View.read_writes_full arg10.view _ _ _ _).trans ?_
  rw [ld_all2, ld_all2, ld_all1, ld_all1]
  rfl

set_option maxHeartbeats 1000000 in
/-- Point 2: the body reads both gates and stores the attention matrix, leaving its inputs and the gates in place. -/
theorem run_attn (hc0 : ¬isGate 0#32 i) (hc1 : ¬isGate 1#32 i) (hc2 : k0_cond3 i = 1#1)
    (adj : Vec F S256x256 .f32) (a : Vec F S512x1 .f32) (r z : Vec F S128x256 .f32) (E : Set ℕ) (K : PUnit → sProp 𝕄) :
    iprop(owns (c : Thread nD τ) arg1 fullShare x ∗ owns (c : Thread nD τ) arg2 fullShare adj ∗ owns (c : Thread nD τ) arg3 fullShare wi
        ∗ owns (c : Thread nD τ) arg4 fullShare wh ∗ owns (c : Thread nD τ) arg5 fullShare bi ∗ owns (c : Thread nD τ) arg6 fullShare bh
        ∗ owns (c : Thread nD τ) arg7 fullShare a ∗ (∃ d, owns (c : Thread nD τ) arg8 fullShare d)
        ∗ owns (c : Thread nD τ) arg9 fullShare r ∗ owns (c : Thread nD τ) arg10 fullShare z
        ∗ (iprop(owns (c : Thread nD τ) arg1 fullShare x ∗ owns (c : Thread nD τ) arg2 fullShare adj ∗ owns (c : Thread nD τ) arg3 fullShare wi
            ∗ owns (c : Thread nD τ) arg4 fullShare wh ∗ owns (c : Thread nD τ) arg5 fullShare bi ∗ owns (c : Thread nD τ) arg6 fullShare bh
            ∗ owns (c : Thread nD τ) arg7 fullShare a ∗ owns (c : Thread nD τ) arg8 fullShare (attnOf x adj wi wh bi bh a r z)
            ∗ owns (c : Thread nD τ) arg9 fullShare r ∗ owns (c : Thread nD τ) arg10 fullShare z) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg9.eq_unread hf8; obtain rfl := harg10.eq_unread hf9
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    simp only [View.readAt_eq_ld, Memref.IsWhole.read_unread]
    refine (View.read_writes_full arg8.view _ _ _ _).trans ?_
    rw [ld_all2, ld_all2, ld_all2, ld_all1, ld_all1, ld_all_gate, ld_all_gate]
    rfl
  isplitl [H8]
  · iexists _; isplitr; · ipureintro; exact harg9.read_unread _
    iexact H8
  iexists _; isplitr; · ipureintro; exact harg10.read_unread _
  iexact H9

end runs

end Cert.KernelIdeal.Attn

end
-- ==== Proof.Launch.lean ====
/- The kernel's run: the two gates carried in scratch from point to point, the attention matrix written at the last point,
   and what every final state holds. -/
module

public import proofs.«01_k».proof.Proof.Body

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gate computed from the blocks of point `t`. -/
def gateAt (c : Dev nD) (t : Fin cfg0.N) : Vec F S128x256 .f32 :=
  gateOf (X0_0 m c t) (iblk m c 2 t) (iblk m c 3 t) (iblk m c 4 t) (iblk m c 5 t)

/-- The attention matrix computed from the blocks of point `t` and the gates of points 0 and 1. -/
def attnAt (c : Dev nD) (t : Fin cfg0.N) : Vec F S256x256 .f32 :=
  attnOf (X0_0 m c t) (iblk m c 1 t) (iblk m c 2 t) (iblk m c 3 t) (iblk m c 4 t) (iblk m c 5 t) (iblk m c 6 t)
    (gateAt m c t0_0) (gateAt m c t0_1)

/-- What the scratch buffers hold before point `n`: each gate once its point has run, anything before. -/
def kept (c : Dev nD) : ℕ → sProp 𝕄
  | 0 => iprop((∃ d, owns (c : Thread nD τ) resetBuf fullShare d) ∗ (∃ d, owns (c : Thread nD τ) updateBuf fullShare d))
  | 1 => iprop(owns (c : Thread nD τ) resetBuf fullShare (gateAt m c t0_0) ∗ (∃ d, owns (c : Thread nD τ) updateBuf fullShare d))
  | _ + 2 => iprop(owns (c : Thread nD τ) resetBuf fullShare (gateAt m c t0_0) ∗ owns (c : Thread nD τ) updateBuf fullShare (gateAt m c t0_1))

/-- The pipeline's proof data: the inputs' blocks stay in place, the output block is the attention matrix, the scratch
    buffers hold what `kept` says. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => attnAt m c t
  Φ t := iprop(kept m c t.val ∗ (∃ r, prngReg c r))
  q _ := fullShare
  owed _ := 0

/-- The arrays are what the region finds. -/
theorem A_eq (c : Dev nD) (w : Fin cfg0.W) : (dats m 0 c).A w = V m c (Pipeline.arrRef spec0 w) := by
  dsimp only [dats]

/-- What the body leaves in window 0's buffer. -/
theorem after_0 (c : Dev nD) (t : Fin cfg0.N) : (dats m 0 c).after 0 t = X0_0 m c t := by dsimp only [dats]
/-- What the body leaves in window 1's buffer. -/
theorem after_1 (c : Dev nD) (t : Fin cfg0.N) : (dats m 0 c).after 1 t = iblk m c 1 t := by dsimp only [dats]
/-- What the body leaves in window 2's buffer. -/
theorem after_2 (c : Dev nD) (t : Fin cfg0.N) : (dats m 0 c).after 2 t = iblk m c 2 t := by dsimp only [dats]
/-- What the body leaves in window 3's buffer. -/
theorem after_3 (c : Dev nD) (t : Fin cfg0.N) : (dats m 0 c).after 3 t = iblk m c 3 t := by dsimp only [dats]
/-- What the body leaves in window 4's buffer. -/
theorem after_4 (c : Dev nD) (t : Fin cfg0.N) : (dats m 0 c).after 4 t = iblk m c 4 t := by dsimp only [dats]
/-- What the body leaves in window 5's buffer. -/
theorem after_5 (c : Dev nD) (t : Fin cfg0.N) : (dats m 0 c).after 5 t = iblk m c 5 t := by dsimp only [dats]
/-- What the body leaves in window 6's buffer. -/
theorem after_6 (c : Dev nD) (t : Fin cfg0.N) : (dats m 0 c).after 6 t = iblk m c 6 t := by dsimp only [dats]
/-- What the body leaves in window 7's buffer. -/
theorem after_7 (c : Dev nD) (t : Fin cfg0.N) : (dats m 0 c).after 7 t = attnAt m c t := by dsimp only [dats]

/-- What the body finds in window 0's buffer: the window's block, fetched at this point or kept from an earlier one. -/
theorem before_0 (c : Dev nD) (t : Fin cfg0.N) (d) : (dats m 0 c).before 0 t d = X0_0 m c t :=
  before0_0_of m (dats m 0 c) (A_eq m c 0) (after_0 m c) t d
/-- What the body finds in window 1's buffer: the window's block, fetched at this point or kept from an earlier one. -/
theorem before_1 (c : Dev nD) (t : Fin cfg0.N) (d) : (dats m 0 c).before 1 t d = iblk m c 1 t :=
  before0_1_of m (dats m 0 c) (A_eq m c 1) (after_1 m c) t d
/-- What the body finds in window 2's buffer: the window's block, fetched at this point or kept from an earlier one. -/
theorem before_2 (c : Dev nD) (t : Fin cfg0.N) (d) : (dats m 0 c).before 2 t d = iblk m c 2 t :=
  before0_2_of m (dats m 0 c) (A_eq m c 2) (after_2 m c) t d
/-- What the body finds in window 3's buffer: the window's block, fetched at this point or kept from an earlier one. -/
theorem before_3 (c : Dev nD) (t : Fin cfg0.N) (d) : (dats m 0 c).before 3 t d = iblk m c 3 t :=
  before0_3_of m (dats m 0 c) (A_eq m c 3) (after_3 m c) t d
/-- What the body finds in window 4's buffer: the window's block, fetched at this point or kept from an earlier one. -/
theorem before_4 (c : Dev nD) (t : Fin cfg0.N) (d) : (dats m 0 c).before 4 t d = iblk m c 4 t :=
  before0_4_of m (dats m 0 c) (A_eq m c 4) (after_4 m c) t d
/-- What the body finds in window 5's buffer: the window's block, fetched at this point or kept from an earlier one. -/
theorem before_5 (c : Dev nD) (t : Fin cfg0.N) (d) : (dats m 0 c).before 5 t d = iblk m c 5 t :=
  before0_5_of m (dats m 0 c) (A_eq m c 5) (after_5 m c) t d
/-- What the body finds in window 6's buffer: the window's block, fetched at this point or kept from an earlier one. -/
theorem before_6 (c : Dev nD) (t : Fin cfg0.N) (d) : (dats m 0 c).before 6 t d = iblk m c 6 t :=
  before0_6_of m (dats m 0 c) (A_eq m c 6) (after_6 m c) t d
/-- What the body hands back of window 0: its block, in place. -/
theorem leaves_0 (c : Dev nD) (t : Fin cfg0.N) :
    (dats m 0 c).leavesExact 0 t = (owns (c : Thread nD τ) (st0_0 t) fullShare (X0_0 m c t) : sProp 𝕄) := by
  unfold Dat.leavesExact; rw [show cfg0.idle 0 (cfg0.grid.coords t) = false from rfl, after_0]
/-- What the body hands back of window 1: its block, in place. -/
theorem leaves_1 (c : Dev nD) (t : Fin cfg0.N) :
    (dats m 0 c).leavesExact 1 t = (owns (c : Thread nD τ) (st0_1 t) fullShare (iblk m c 1 t) : sProp 𝕄) := by
  unfold Dat.leavesExact; rw [show cfg0.idle 1 (cfg0.grid.coords t) = false from rfl, after_1]
/-- What the body hands back of window 2: its block, in place. -/
theorem leaves_2 (c : Dev nD) (t : Fin cfg0.N) :
    (dats m 0 c).leavesExact 2 t = (owns (c : Thread nD τ) (st0_2 t) fullShare (iblk m c 2 t) : sProp 𝕄) := by
  unfold Dat.leavesExact; rw [show cfg0.idle 2 (cfg0.grid.coords t) = false from rfl, after_2]
/-- What the body hands back of window 3: its block, in place. -/
theorem leaves_3 (c : Dev nD) (t : Fin cfg0.N) :
    (dats m 0 c).leavesExact 3 t = (owns (c : Thread nD τ) (st0_3 t) fullShare (iblk m c 3 t) : sProp 𝕄) := by
  unfold Dat.leavesExact; rw [show cfg0.idle 3 (cfg0.grid.coords t) = false from rfl, after_3]
/-- What the body hands back of window 4: its block, in place. -/
theorem leaves_4 (c : Dev nD) (t : Fin cfg0.N) :
    (dats m 0 c).leavesExact 4 t = (owns (c : Thread nD τ) (st0_4 t) fullShare (iblk m c 4 t) : sProp 𝕄) := by
  unfold Dat.leavesExact; rw [show cfg0.idle 4 (cfg0.grid.coords t) = false from rfl, after_4]
/-- What the body hands back of window 5: its block, in place. -/
theorem leaves_5 (c : Dev nD) (t : Fin cfg0.N) :
    (dats m 0 c).leavesExact 5 t = (owns (c : Thread nD τ) (st0_5 t) fullShare (iblk m c 5 t) : sProp 𝕄) := by
  unfold Dat.leavesExact; rw [show cfg0.idle 5 (cfg0.grid.coords t) = false from rfl, after_5]
/-- What the body hands back of window 6: its block, in place. -/
theorem leaves_6 (c : Dev nD) (t : Fin cfg0.N) :
    (dats m 0 c).leavesExact 6 t = (owns (c : Thread nD τ) (st0_6 t) fullShare (iblk m c 6 t) : sProp 𝕄) := by
  unfold Dat.leavesExact; rw [show cfg0.idle 6 (cfg0.grid.coords t) = false from rfl, after_6]

/-- Before the last point the output window is idle: the body hands back whatever it found there. -/
theorem leaves_out_idle (c : Dev nD) (t : Fin cfg0.N) (h : t.val ≠ 2) :
    (dats m 0 c).leavesExact 7 t
      = (iprop(∃ d, owns (c : Thread nD τ) (st0_7 t) fullShare ((dats m 0 c).before 7 t d)) : sProp 𝕄) := by
  have ht : t.val < 3 := Nat.lt_of_lt_of_eq t.isLt N_0
  refine (dats m 0 c).leavesExact_idle 7 t ?_ ?_
  · show (!(k0_cond3 (grid0.coords t) == 1#1)) = true
    rw [Bool.not_eq_true', beq_eq_false_iff_ne]
    exact fun e => h ((isLast t).mp e)
  · rw [Bool.eq_false_iff]
    exact fun e => by have := (flush0_7 t).mp e; omega

/-- At the last point the output window's buffer holds the attention matrix. -/
theorem leaves_out_last (c : Dev nD) (t : Fin cfg0.N) (h : t.val = 2) :
    (dats m 0 c).leavesExact 7 t = (owns (c : Thread nD τ) (st0_7 t) fullShare (attnAt m c t) : sProp 𝕄) := by
  have e : cfg0.idle 7 (cfg0.grid.coords t) = false := by
    show (!(k0_cond3 (grid0.coords t) == 1#1)) = false
    rw [(isLast t).mpr h]; rfl
  unfold Dat.leavesExact; rw [e, after_7]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
/-- The body at point 0 takes the scratch buffers from `kept 0` to `kept 1`. -/
theorem sound_reset (c : Dev nD) :
    bodyPre m c t0_0 ⊢ wp frame (wpE (defs₀ (F := F)) Variants.none c none) Set.univ (bodyAt0 t0_0) (fun _ => bodyPost m c t0_0) := by
  unfold bodyPre bodyPost bodyAt0
  simp only [before_0, before_1, before_2, before_3, before_4, before_5, before_6,
    leaves_0, leaves_1, leaves_2, leaves_3, leaves_4, leaves_5, leaves_6]
  rw [leaves_out_idle m c t0_0 (by decide),
    show (dats m 0 c).owesAt () (t0_0 : Fin cfg0.N).succ = (dats m 0 c).owesAt () (t0_0 : Fin cfg0.N).castSucc from rfl,
    show (dats m 0 c).Φ (t0_0 : Fin cfg0.N).castSucc = iprop(kept m c 0 ∗ (∃ r, prngReg c r)) from rfl,
    show (dats m 0 c).Φ (t0_0 : Fin cfg0.N).succ = iprop(kept m c 1 ∗ (∃ r, prngReg c r)) from rfl]
  unfold kept
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
  iapply (run_reset c (grid0.coords t0_0) _ _ _ _ _ _ _ _ _ _ _ _ _ _ _ _ _ _ _ _ (X0_0 m c t0_0) (iblk m c 2 t0_0) (iblk m c 3 t0_0) (iblk m c 4 t0_0) (iblk m c 5 t0_0)
    ((isGate_zero _).mpr rfl) (fun h => absurd ((isGate_one _).mp h) (by decide)) (fun h => absurd ((isLast _).mp h) (by decide)) Set.univ _)
  isplitl [H0]; · iexact H0
  isplitl [H2]; · iexact H2
  isplitl [H3]; · iexact H3
  isplitl [H4]; · iexact H4
  isplitl [H5]; · iexact H5
  isplitl [HS0]; · iexact HS0
  iintro ⟨H0, H2, H3, H4, H5, HS0⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2400000 in
/-- The body at point 1 takes the scratch buffers from `kept 1` to `kept 2`. -/
theorem sound_update (c : Dev nD) :
    bodyPre m c t0_1 ⊢ wp frame (wpE (defs₀ (F := F)) Variants.none c none) Set.univ (bodyAt0 t0_1) (fun _ => bodyPost m c t0_1) := by
  unfold bodyPre bodyPost bodyAt0
  simp only [before_0, before_1, before_2, before_3, before_4, before_5, before_6,
    leaves_0, leaves_1, leaves_2, leaves_3, leaves_4, leaves_5, leaves_6]
  rw [leaves_out_idle m c t0_1 (by decide),
    show (dats m 0 c).owesAt () (t0_1 : Fin cfg0.N).succ = (dats m 0 c).owesAt () (t0_1 : Fin cfg0.N).castSucc from rfl,
    show (dats m 0 c).Φ (t0_1 : Fin cfg0.N).castSucc = iprop(kept m c 1 ∗ (∃ r, prngReg c r)) from rfl,
    show (dats m 0 c).Φ (t0_1 : Fin cfg0.N).succ = iprop(kept m c 2 ∗ (∃ r, prngReg c r)) from rfl]
  unfold kept
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7⟩
  iapply (run_update c (grid0.coords t0_1) _ _ _ _ _ _ _ _ _ _ _ _ _ _ _ _ _ _ _ _ (X0_0 m c t0_1) (iblk m c 2 t0_1) (iblk m c 3 t0_1) (iblk m c 4 t0_1) (iblk m c 5 t0_1)
    (fun h => absurd ((isGate_zero _).mp h) (by decide)) ((isGate_one _).mpr rfl) (fun h => absurd ((isLast _).mp h) (by decide)) Set.univ _)
  isplitl [H0]; · iexact H0
  isplitl [H2]; · iexact H2
  isplitl [H3]; · iexact H3
  isplitl [H4]; · iexact H4
  isplitl [H5]; · iexact H5
  isplitl [HS1]; · iexact HS1
  iintro ⟨H0, H2, H3, H4, H5, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2400000 in
/-- The body at point 2 reads both gates and leaves the attention matrix in the output window's buffer. -/
theorem sound_last (c : Dev nD) :
    bodyPre m c t0_2 ⊢ wp frame (wpE (defs₀ (F := F)) Variants.none c none) Set.univ (bodyAt0 t0_2) (fun _ => bodyPost m c t0_2) := by
  unfold bodyPre bodyPost bodyAt0
  simp only [before_0, before_1, before_2, before_3, before_4, before_5, before_6,
    leaves_0, leaves_1, leaves_2, leaves_3, leaves_4, leaves_5, leaves_6]
  rw [leaves_out_last m c t0_2 rfl,
    show (dats m 0 c).owesAt () (t0_2 : Fin cfg0.N).succ = (dats m 0 c).owesAt () (t0_2 : Fin cfg0.N).castSucc from rfl,
    show (dats m 0 c).Φ (t0_2 : Fin cfg0.N).castSucc = iprop(kept m c 2 ∗ (∃ r, prngReg c r)) from rfl,
    show (dats m 0 c).Φ (t0_2 : Fin cfg0.N).succ = iprop(kept m c 3 ∗ (∃ r, prngReg c r)) from rfl]
  unfold kept
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_attn c (grid0.coords t0_2) _ _ _ _ _ _ _ _ _ _ _ _ _ _ _ _ _ _ _ _ (X0_0 m c t0_2) (iblk m c 2 t0_2) (iblk m c 3 t0_2) (iblk m c 4 t0_2) (iblk m c 5 t0_2)
    (fun h => absurd ((isGate_zero _).mp h) (by decide)) (fun h => absurd ((isGate_one _).mp h) (by decide)) ((isLast _).mpr rfl)
    (iblk m c 1 t0_2) (iblk m c 6 t0_2) (gateAt m c t0_0) (gateAt m c t0_1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body's triple at each of the three points. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl
  · exact sound_reset m c
  · exact sound_update m c
  · exact sound_last m c

/-- The body table's row at point `t`'s slots is the body on its staging buffers. -/
theorem row_eq (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What surrounds the pipeline is the invariant before point 0. -/
theorem enter (c : Dev nD) : (Pipeline.ΦA spec0 c : sProp 𝕄) ⊢ (dats m 0 c).Φ 0 := by
  rw [around_eq]; exact .rfl

/-- The invariant after the last point gives back what surrounds the pipeline, the gates forgotten. -/
theorem leave (c : Dev nD) : (dats m 0 c).Φ (Fin.last cfg0.N) ⊢ (Pipeline.ΦA spec0 c : sProp 𝕄) := by
  rw [around_eq, show (dats m 0 c).Φ (Fin.last cfg0.N) = iprop(kept m c 3 ∗ (∃ r, prngReg c r)) from rfl]
  unfold kept
  iintro ⟨⟨HS0, HS1⟩, Hg⟩
  isplitl [HS0 HS1]
  · isplitl [HS0]
    · iexists _; iexact HS0
    iexists _; iexact HS1
  iexact Hg

-- the launch theorem's implicit arguments are found by unfolding definitions in the types of its metavariables
set_option backward.isDefEq.respectTransparency.types false in
/-- The launch: every execution ends, with the arrays as the proof data says and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := enter m) (hout := leave m)

end Cert.KernelIdeal.Attn

end
-- ==== Proof.Math.lean ====
/- The problem's mathematics over the extended reals, as plain functions of rows and columns: a gated recurrent update of
   the 128 updated nodes, the attention scores, their mask, and a row's normalized exponentials. No program occurs here. -/
module

public import Idealize.ShloMosaic.PureOps.Ideal
public import Mathlib.Data.EReal.Operations
public import Mathlib.Algebra.BigOperators.Fin

@[expose] public section

noncomputable section

namespace Cert.Attn

open Idealize.ShloMosaic

/-- Row `j` of gate `g` among the 768 rows of the stacked weights. -/
def gateRow (g : Fin 3) (j : Fin 256) : Fin 768 := ⟨256 * g.val + j.val, by omega⟩
/-- The first half of the attention vector's positions. -/
def firstHalf (k : Fin 256) : Fin 512 := ⟨k.val, by omega⟩
/-- The second half of the attention vector's positions. -/
def secondHalf (k : Fin 256) : Fin 512 := ⟨256 + k.val, by omega⟩

section update

variable (l r : Fin 128 → Fin 256 → EReal) (wi wh : Fin 768 → Fin 256 → EReal) (bi bh : Fin 768 → EReal)

/-- A row times a row of the weights, plus the bias. -/
def project (x : Fin 128 → Fin 256 → EReal) (w : Fin 768 → Fin 256 → EReal) (b : Fin 768 → EReal) (i : Fin 128) (j : Fin 768) : EReal :=
  (∑ k, x i k * w j k) + b j

/-- Gate `g` of the update: the logistic of the two projections' sum. -/
def gate (g : Fin 3) (i : Fin 128) (j : Fin 256) : EReal :=
  Ideal.logistic (project r wi bi i (gateRow g j) + project l wh bh i (gateRow g j))

/-- The candidate state. -/
def candidate (i : Fin 128) (j : Fin 256) : EReal :=
  Ideal.tanh (project r wi bi i (gateRow 2 j) + gate l r wi wh bi bh 0 i j * project l wh bh i (gateRow 2 j))

/-- The updated state: the mean of the candidate and the left neighbour, weighted by the update gate. -/
def updated (i : Fin 128) (j : Fin 256) : EReal :=
  (1 - gate l r wi wh bi bh 1 i j) * candidate l r wi wh bi bh i j + gate l r wi wh bi bh 1 i j * l i j

end update

section attention

variable (h : Fin 128 → Fin 256 → EReal) (a : Fin 512 → EReal) (adj : Fin 256 → Fin 256 → EReal)

/-- All 256 nodes: the updated ones, then zeros. -/
def nodes (i k : Fin 256) : EReal := if hi : i.val < 128 then h ⟨i.val, hi⟩ k else 0

/-- The score of a pair of nodes: the first node against the attention vector's first half, the second against its second. -/
def score (i j : Fin 256) : EReal :=
  (∑ k, nodes h i k * a (firstHalf k)) + ∑ k, nodes h j k * a (secondHalf k)

/-- The slope of the leaky rectifier below zero. -/
def slope : EReal := Ideal.ofBits .f32 0x3E4CCCCD#32
/-- The score that stands where there is no edge. -/
def noEdge : EReal := Ideal.ofBits .f32 0xD9FFCB9E#32

/-- The leaky rectifier. -/
def leaky (x : EReal) : EReal := if 0 ≤ x then x else slope * x

/-- The rectified score where there is an edge, a large negative number where there is none. -/
def masked (i j : Fin 256) : EReal := if 0 < adj i j then leaky (score h a i j) else noEdge

end attention

/-- The largest entry of row `i`. -/
def rowMax (x : Fin 256 → Fin 256 → EReal) (i : Fin 256) : EReal := Finset.univ.fold max ⊥ (x i)
/-- The exponential of an entry less its row's largest. -/
def expShift (x : Fin 256 → Fin 256 → EReal) (i j : Fin 256) : EReal := Ideal.exp (x i j - rowMax x i)
/-- A row's normalized exponentials. -/
def softmax (x : Fin 256 → Fin 256 → EReal) (i j : Fin 256) : EReal :=
  Ideal.div (expShift x i j) (∑ k, expShift x i k)

/-! ## The facts that join the two ways of computing it -/

/-- The logistic of anything is a real between 0 and 1. -/
theorem logistic_real (x : EReal) : ∃ z : ℝ, 0 ≤ z ∧ z ≤ 1 ∧ Ideal.logistic x = (z : EReal) := by
  induction x with
  | bot => exact ⟨0, le_rfl, zero_le_one, by simp⟩
  | top => exact ⟨1, zero_le_one, le_rfl, by simp⟩
  | coe r =>
    have h : (0 : ℝ) < 1 + Real.exp (-r) := by positivity
    refine ⟨(1 + Real.exp (-r))⁻¹, (inv_pos.2 h).le, inv_le_one_of_one_le₀ ?_, Ideal.logistic_coe r⟩
    linarith [Real.exp_pos (-r)]

/-- The hyperbolic tangent of anything is a real. -/
theorem tanh_real (x : EReal) : ∃ n : ℝ, Ideal.tanh x = (n : EReal) := by
  induction x with
  | bot => exact ⟨-1, by simp⟩
  | top => exact ⟨1, by simp⟩
  | coe r => exact ⟨Real.tanh r, rfl⟩

/-- Moving from `n` towards `x` by the share `z` is their mean weighted by `z`, `x` infinite or not. -/
theorem lerp_eq (z n : ℝ) (h0 : 0 ≤ z) (x : EReal) :
    (n : EReal) + z * (x - n) = (1 - (z : EReal)) * n + z * x := by
  have hc : (1 - (z : EReal)) * n = (((1 - z) * n : ℝ) : EReal) := by
    rw [← EReal.coe_one, ← EReal.coe_sub, ← EReal.coe_mul]
  rw [hc]
  rcases h0.eq_or_lt with rfl | h0
  · simp
  induction x with
  | bot => rw [EReal.bot_sub, EReal.coe_mul_bot_of_pos h0, EReal.add_bot, EReal.add_bot]
  | top => rw [EReal.top_sub_coe, EReal.coe_mul_top_of_pos h0, EReal.coe_add_top, EReal.coe_add_top]
  | coe r =>
    rw [← EReal.coe_sub, ← EReal.coe_mul, ← EReal.coe_mul, ← EReal.coe_add, ← EReal.coe_add]
    exact congrArg _ (by ring)

/-- The update as a step from the candidate towards the left neighbour is the weighted mean. -/
theorem step_eq_updated (l r : Fin 128 → Fin 256 → EReal) (wi wh : Fin 768 → Fin 256 → EReal) (bi bh : Fin 768 → EReal)
    (i : Fin 128) (j : Fin 256) :
    candidate l r wi wh bi bh i j + gate l r wi wh bi bh 1 i j * (l i j - candidate l r wi wh bi bh i j)
      = updated l r wi wh bi bh i j := by
  unfold updated
  obtain ⟨z, h0, -, hz⟩ := logistic_real (project r wi bi i (gateRow 1 j) + project l wh bh i (gateRow 1 j))
  obtain ⟨n, hn⟩ := tanh_real (project r wi bi i (gateRow 2 j) + gate l r wi wh bi bh 0 i j * project l wh bh i (gateRow 2 j))
  rw [show gate l r wi wh bi bh 1 i j = z from hz, show candidate l r wi wh bi bh i j = n from hn]
  exact lerp_eq z n h0 _

/-- The slope is a real between 0 and 1. -/
theorem slope_real : ∃ s : ℝ, 0 < s ∧ s ≤ 1 ∧ slope = (s : EReal) := by
  have hs : slope = ((13421773 / 67108864 : ℝ) : EReal) := by
    simp only [slope, Ideal.ofBits, Ideal.ieee]
    have hsign : ¬ BitVec.extractLsb' 31 1 1045220557#32 = 1#1 := by decide
    have hexp : (1045220557 >>> 23 % 256 : ℕ) = 124 := rfl
    norm_num [hsign, hexp]
  exact ⟨_, by norm_num, by norm_num, hs⟩

/-- The larger of a number and its multiple by the slope is the leaky rectifier. -/
theorem max_slope (x : EReal) : max x (slope * x) = leaky x := by
  obtain ⟨s, h0, h1, hs⟩ := slope_real
  unfold leaky
  rw [hs]
  induction x with
  | bot => rw [EReal.coe_mul_bot_of_pos h0, if_neg (by simp), max_self]
  | top => rw [if_pos le_top, EReal.coe_mul_top_of_pos h0, max_self]
  | coe r =>
    rw [← EReal.coe_mul, ← EReal.coe_strictMono.monotone.map_max]
    by_cases h : 0 ≤ r
    · rw [if_pos (by exact_mod_cast h), max_eq_left (by nlinarith)]
    · rw [if_neg (by exact_mod_cast h), max_eq_right (by nlinarith)]

/-- Beyond the updated nodes a node is zero, so its products sum to zero. -/
theorem sum_nodes (h : Fin 128 → Fin 256 → EReal) (b : Fin 256 → EReal) (i : Fin 256) :
    ∑ k, nodes h i k * b k = if hi : i.val < 128 then ∑ k, h ⟨i.val, hi⟩ k * b k else 0 := by
  unfold nodes
  by_cases hi : i.val < 128
  · simp only [dif_pos hi]
  · simp only [dif_neg hi, zero_mul, Finset.sum_const_zero]

/-- A sum over the attention vector is the sum over its first half plus the sum over its second. -/
theorem sum_halves (f : Fin 512 → EReal) : ∑ k, f k = (∑ k, f (firstHalf k)) + ∑ k, f (secondHalf k) :=
  Fin.sum_univ_add (a := 256) (b := 256) f

end Cert.Attn

end
-- ==== Proof.Value.lean ====
/- The attention matrix as a function of the arrays: nodes i + 1 and i + 2 of the inputs through the gated update, scored,
   masked by the adjacency matrix and normalized. -/
module

public import proofs.«01_k».proof.Proof.Math
public import Idealize.ShloMosaic.Lib.ValueIdx

@[expose] public section

noncomputable section

namespace Cert.Attn

open Idealize.ShloMosaic Idealize.ShloMosaic.ValueIdx

/-- The rows 1 to 128 of the inputs. -/
def leftNodes (x : (⟨2, ![256, 256]⟩ : Shape).Idx → EReal) (i : Fin 128) (k : Fin 256) : EReal := x (ix2 (⟨i.val + 1, by omega⟩ : Fin 256) k)
/-- The rows 2 to 129 of the inputs. -/
def rightNodes (x : (⟨2, ![256, 256]⟩ : Shape).Idx → EReal) (i : Fin 128) (k : Fin 256) : EReal := x (ix2 (⟨i.val + 2, by omega⟩ : Fin 256) k)
/-- The weights of the three gates, by row and column. -/
def weights (w : (⟨2, ![768, 256]⟩ : Shape).Idx → EReal) (j : Fin 768) (k : Fin 256) : EReal := w (ix2 j k)
/-- The biases of the three gates. -/
def biases (b : (⟨1, ![768]⟩ : Shape).Idx → EReal) (j : Fin 768) : EReal := b (ix1 j)
/-- The attention vector. -/
def scorer (a : (⟨2, ![512, 1]⟩ : Shape).Idx → EReal) (k : Fin 512) : EReal := a (ix2 k (0 : Fin 1))
/-- The adjacency matrix, by row and column. -/
def edges (x : (⟨2, ![256, 256]⟩ : Shape).Idx → EReal) (i j : Fin 256) : EReal := x (ix2 i j)

/-- The attention matrix of the arrays. -/
def attention (x adj : (⟨2, ![256, 256]⟩ : Shape).Idx → EReal) (wi wh : (⟨2, ![768, 256]⟩ : Shape).Idx → EReal)
    (bi bh : (⟨1, ![768]⟩ : Shape).Idx → EReal) (a : (⟨2, ![512, 1]⟩ : Shape).Idx → EReal) : Fin 256 → Fin 256 → EReal :=
  softmax (masked (updated (leftNodes x) (rightNodes x) (weights wi) (weights wh) (biases bi) (biases bh)) (scorer a) (edges adj))

end Cert.Attn

end
-- ==== Proof.Blocks.lean ====
/- The kernel's input blocks read at an element: which element of which argument array each block holds at a point. -/
module

public import proofs.«01_k».proof.Proof.Launch
public import proofs.«01_k».proof.Proof.Value
public import Idealize.ShloMosaic.Lib.ValueIdx
public import Idealize.ShloMosaic.Lib.Pipeline.Value
public import Idealize.ShloMosaic.Lib.Pipeline.ValueKit.Tiles

@[expose] public section

noncomputable section

namespace Cert.KernelIdeal.Attn

open Idealize.ShloMosaic Idealize.ShloMosaic.TcCoe Idealize.ShloMosaic.ValueIdx
open Cert.KernelIdeal.Gen

variable {F : FTy → Type} [FloatOps F]
variable (m : (ℓ : Loc nD τ sig) → Buf (Elt F) ℓ)

/-- The gate a point computes: its number. -/
def gateNo (t : Fin cfg0.N) : Fin 3 := ⟨t.val, Nat.lt_of_lt_of_eq t.isLt N_0⟩

/-- The block of inputs is the first 136 rows. -/
theorem inputs_apply (c : Dev nD) (t : Fin cfg0.N) (r : Fin 136) (k : Fin 256) :
    (X0_0 m c t : Vec F S136x256 .f32) (ix2 r k)
      = (m ((c : Thread nD τ).loc main_arg0) : Vec F S256x256 .f32) (ix2 (⟨r.val, by omega⟩ : Fin 256) k) := by
  have hi : win0_0.index t 0 = 0 ∧ win0_0.index t 1 = 0 := ⟨rfl, rfl⟩
  unfold X0_0 Pipeline.Window.fill
  rw [dif_pos (moved0_0 t _)]
  unfold iblk
  rw [View.read_apply]
  show V m c main_arg0 _ = V m c main_arg0 _
  congr 1
  funext a
  apply Fin.ext
  match a with
  | ⟨0, _⟩ => show win0_0.index t 0 * 136 + 1 * r.val = r.val; rw [hi.1]; omega
  | ⟨1, _⟩ => show win0_0.index t 1 * 256 + 1 * k.val = k.val; rw [hi.2]; omega

/-- The block of the adjacency matrix is the matrix. -/
theorem adjacency_apply (c : Dev nD) (t : Fin cfg0.N) (i j : Fin 256) :
    (iblk m c 1 t : Vec F S256x256 .f32) (ix2 i j) = (m ((c : Thread nD τ).loc main_arg1) : Vec F S256x256 .f32) (ix2 i j) := by
  have hi : win0_1.index t 0 = 0 ∧ win0_1.index t 1 = 0 := ⟨rfl, rfl⟩
  unfold iblk
  rw [View.read_apply]
  show V m c main_arg1 _ = V m c main_arg1 _
  congr 1
  funext a
  apply Fin.ext
  match a with
  | ⟨0, _⟩ => show win0_1.index t 0 * 256 + 1 * i.val = i.val; rw [hi.1]; omega
  | ⟨1, _⟩ => show win0_1.index t 1 * 256 + 1 * j.val = j.val; rw [hi.2]; omega

/-- The block of the attention vector is the vector. -/
theorem vector_apply (c : Dev nD) (t : Fin cfg0.N) (k : Fin 512) :
    (iblk m c 6 t : Vec F S512x1 .f32) (ix2 k (0 : Fin 1)) = (m ((c : Thread nD τ).loc main_arg6) : Vec F S512x1 .f32) (ix2 k (0 : Fin 1)) := by
  have hi : win0_6.index t 0 = 0 ∧ win0_6.index t 1 = 0 := ⟨rfl, rfl⟩
  unfold iblk
  rw [View.read_apply]
  show V m c main_arg6 _ = V m c main_arg6 _
  congr 1
  funext a
  apply Fin.ext
  match a with
  | ⟨0, _⟩ => show win0_6.index t 0 * 512 + 1 * k.val = k.val; rw [hi.1]; omega
  | ⟨1, _⟩ => show win0_6.index t 1 * 1 + 1 * 0 = 0; rw [hi.2]

/-- The block of input weights at a point is the gate's rows. -/
theorem inputWeights_apply (c : Dev nD) (t : Fin cfg0.N) (j k : Fin 256) :
    (iblk m c 2 t : Vec F S256x256 .f32) (ix2 j k)
      = (m ((c : Thread nD τ).loc main_arg2) : Vec F S768x256 .f32) (ix2 (Cert.Attn.gateRow (gateNo t) j) k) := by
  have hi : win0_2.index t 0 = t.val ∧ win0_2.index t 1 = 0 := by
    rcases fin_N0 t with rfl | rfl | rfl <;> decide
  unfold iblk
  rw [View.read_apply]
  show V m c main_arg2 _ = V m c main_arg2 _
  congr 1
  funext a
  apply Fin.ext
  match a with
  | ⟨0, _⟩ => show win0_2.index t 0 * 256 + 1 * j.val = 256 * t.val + j.val; rw [hi.1]; omega
  | ⟨1, _⟩ => show win0_2.index t 1 * 256 + 1 * k.val = k.val; rw [hi.2]; omega

/-- The block of hidden weights at a point is the gate's rows. -/
theorem hiddenWeights_apply (c : Dev nD) (t : Fin cfg0.N) (j k : Fin 256) :
    (iblk m c 3 t : Vec F S256x256 .f32) (ix2 j k)
      = (m ((c : Thread nD τ).loc main_arg3) : Vec F S768x256 .f32) (ix2 (Cert.Attn.gateRow (gateNo t) j) k) := by
  have hi : win0_3.index t 0 = t.val ∧ win0_3.index t 1 = 0 := by
    rcases fin_N0 t with rfl | rfl | rfl <;> decide
  unfold iblk
  rw [View.read_apply]
  show V m c main_arg3 _ = V m c main_arg3 _
  congr 1
  funext a
  apply Fin.ext
  match a with
  | ⟨0, _⟩ => show win0_3.index t 0 * 256 + 1 * j.val = 256 * t.val + j.val; rw [hi.1]; omega
  | ⟨1, _⟩ => show win0_3.index t 1 * 256 + 1 * k.val = k.val; rw [hi.2]; omega

/-- The block of input biases at a point is the gate's. -/
theorem inputBiases_apply (c : Dev nD) (t : Fin cfg0.N) (j : Fin 256) :
    (iblk m c 4 t : Vec F S256 .f32) (ix1 j)
      = (m ((c : Thread nD τ).loc main_arg4) : Vec F S768 .f32) (ix1 (Cert.Attn.gateRow (gateNo t) j)) := by
  have hi : win0_4.index t 0 = t.val := by
    rcases fin_N0 t with rfl | rfl | rfl <;> decide
  unfold iblk
  rw [View.read_apply]
  show V m c main_arg4 _ = V m c main_arg4 _
  congr 1
  funext a
  apply Fin.ext
  match a with
  | ⟨0, _⟩ => show win0_4.index t 0 * 256 + 1 * j.val = 256 * t.val + j.val; rw [hi]; omega

/-- The block of hidden biases at a point is the gate's. -/
theorem hiddenBiases_apply (c : Dev nD) (t : Fin cfg0.N) (j : Fin 256) :
    (iblk m c 5 t : Vec F S256 .f32) (ix1 j)
      = (m ((c : Thread nD τ).loc main_arg5) : Vec F S768 .f32) (ix1 (Cert.Attn.gateRow (gateNo t) j)) := by
  have hi : win0_5.index t 0 = t.val := by
    rcases fin_N0 t with rfl | rfl | rfl <;> decide
  unfold iblk
  rw [View.read_apply]
  show V m c main_arg5 _ = V m c main_arg5 _
  congr 1
  funext a
  apply Fin.ext
  match a with
  | ⟨0, _⟩ => show win0_5.index t 0 * 256 + 1 * j.val = 256 * t.val + j.val; rw [hi]; omega

/-- The left neighbours' rows of a block. -/
theorem leftRows_apply (x : Vec F S136x256 .f32) (i : Fin 128) (k : Fin 256) :
    leftRows x (ix2 i k) = x (ix2 (⟨i.val + 1, by omega⟩ : Fin 136) k) :=
  View.ld_unit_apply_of _ _ _ _ _ _ (fun a => by
    match a with
    | ⟨0, _⟩ => exact Nat.add_comm _ _
    | ⟨1, _⟩ => exact (Nat.zero_add _).symm)

/-- The right neighbours' rows of a block. -/
theorem rightRows_apply (x : Vec F S136x256 .f32) (i : Fin 128) (k : Fin 256) :
    rightRows x (ix2 i k) = x (ix2 (⟨i.val + 2, by omega⟩ : Fin 136) k) :=
  View.ld_unit_apply_of _ _ _ _ _ _ (fun a => by
    match a with
    | ⟨0, _⟩ => exact Nat.add_comm _ _
    | ⟨1, _⟩ => exact (Nat.zero_add _).symm)

/-- The upper half of the attention vector. -/
theorem upperHalf_apply (x : Vec F S512x1 .f32) (k : Fin 256) :
    upperHalf x (ix2 k (0 : Fin 1)) = x (ix2 (Cert.Attn.firstHalf k) (0 : Fin 1)) :=
  View.ld_unit_apply_of _ _ _ _ _ _ (fun a => by
    match a with
    | ⟨0, _⟩ => exact (Nat.zero_add _).symm
    | ⟨1, _⟩ => rfl)

/-- The lower half of the attention vector. -/
theorem lowerHalf_apply (x : Vec F S512x1 .f32) (k : Fin 256) :
    lowerHalf x (ix2 k (0 : Fin 1)) = x (ix2 (Cert.Attn.secondHalf k) (0 : Fin 1)) :=
  View.ld_unit_apply_of _ _ _ _ _ _ (fun a => by
    match a with
    | ⟨0, _⟩ => rfl
    | ⟨1, _⟩ => rfl)

end Cert.KernelIdeal.Attn

end
-- ==== Proof.Payload.lean ====
/- The kernel's two stored values read at an index over the extended reals: the gate and the attention matrix, from the
   entries of the blocks. -/
module

public import proofs.«01_k».proof.Proof.Body
public import proofs.«01_k».proof.Proof.Math
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.KernelIdeal.Attn

open Idealize.ShloMosaic Idealize.ShloMosaic.TcCoe Idealize.ShloMosaic.ValueIdx
open Cert.KernelIdeal.Gen

/-- A bias laid along every row reads, at a row and a column, the bias at the column. -/
theorem bias_apply (b : FVec Ideal S256 .f32) (i : Fin 128) (j : Fin 256) :
    broadcastTo S128x256 (shapeCast S1x256 b shapeCasts_S256_S1x256) broadcasts_S1x256_S128x256 (ix2 i j) = b (ix1 j) := by
  rw [broadcastTo_apply _ _ _ (ix2 (0 : Fin 1) j) (fun a => by match a with | ⟨0, _⟩ => rfl | ⟨1, _⟩ => rfl),
    shapeCast_apply _ _ _ (ix1 j) (by
      have h1 : (S256.rowMajor (ix1 j)).val = j.val := Shape.rowMajor_val_one _
      have h2 : (S1x256.rowMajor (ix2 (0 : Fin 1) j)).val = (0 : Fin 1).val * 256 + j.val := Shape.rowMajor_val_two _
      rw [h1, h2]; simp)]

/-- The first projection at a row and a column. -/
theorem pay1_apply (v1 : FVec Ideal S128x256 .f32) (v2 : FVec Ideal S256x256 .f32) (v6 : FVec Ideal S256 .f32) (i : Fin 128) (j : Fin 256) :
    k0_pay1 (F := Ideal) v1 v2 v6 (ix2 i j) = (∑ k : Fin 256, v1 (ix2 i k) * v2 (ix2 j k)) + v6 (ix1 j) := by
  show FloatOps.matmul (F := Ideal) (φ₁ := .f32) (φ₂ := .f32) (DotDims.transposedRhs 128 256 256) none v1 v2 (constant S128x256 .f32 0x00000000#32) (ix2 i j)
    + broadcastTo S128x256 (shapeCast S1x256 v6 shapeCasts_S256_S1x256) broadcasts_S1x256_S128x256 (ix2 i j) = _
  rw [bias_apply, Ideal.matmul_transposedRhs_apply]
  show Ideal.ofBits .f32 0x00000000#32 + _ + _ = _
  rw [Ideal.ofBits_zero_f32, zero_add]

/-- The second projection at a row and a column: the same computation. -/
theorem pay2_apply (v0 : FVec Ideal S128x256 .f32) (v4 : FVec Ideal S256x256 .f32) (v10 : FVec Ideal S256 .f32) (i : Fin 128) (j : Fin 256) :
    k0_pay2 (F := Ideal) v0 v4 v10 (ix2 i j) = (∑ k : Fin 256, v0 (ix2 i k) * v4 (ix2 j k)) + v10 (ix1 j) :=
  pay1_apply v0 v4 v10 i j

/-- The gate at a row and a column. -/
theorem pay3_apply (v0 v1 : FVec Ideal S128x256 .f32) (v2 v4 : FVec Ideal S256x256 .f32) (v6 v10 : FVec Ideal S256 .f32) (i : Fin 128) (j : Fin 256) :
    k0_pay3 (F := Ideal) v0 v1 v2 v4 v6 v10 (ix2 i j) = Ideal.logistic (k0_pay1 (F := Ideal) v1 v2 v6 (ix2 i j) + k0_pay2 (F := Ideal) v0 v4 v10 (ix2 i j)) := by
  unfold k0_pay3
  exact shapeCast_apply _ _ _ (ix2 i j) rfl

/-- The updated state the last point computes. -/
def stateOf (v0 v1 : FVec Ideal S128x256 .f32) (v2 v4 : FVec Ideal S256x256 .f32) (v6 v10 : FVec Ideal S256 .f32) (r z : FVec Ideal S128x256 .f32) :
    FVec Ideal S128x256 .f32 :=
  let n := tanh (addf (k0_pay1 (F := Ideal) v1 v2 v6) (mulf r (k0_pay2 (F := Ideal) v0 v4 v10)))
  addf n (mulf z (subf v0 n))

/-- The updated state at a row and a column. -/
theorem stateOf_apply (v0 v1 : FVec Ideal S128x256 .f32) (v2 v4 : FVec Ideal S256x256 .f32) (v6 v10 : FVec Ideal S256 .f32)
    (r z : FVec Ideal S128x256 .f32) (i : Fin 128) (j : Fin 256) (n : EReal)
    (hn : n = Ideal.tanh (k0_pay1 (F := Ideal) v1 v2 v6 (ix2 i j) + r (ix2 i j) * k0_pay2 (F := Ideal) v0 v4 v10 (ix2 i j))) :
    stateOf v0 v1 v2 v4 v6 v10 r z (ix2 i j) = n + z (ix2 i j) * (v0 (ix2 i j) - n) := by
  subst hn; rfl

/-- A column vector laid along every column, at a row and a column. -/
theorem alongRows_apply (x : FVec Ideal S256x1 .f32) (i j : Fin 256) :
    broadcastTo S256x256 x broadcasts_S256x1_S256x256 (ix2 i j) = x (ix2 i (0 : Fin 1)) :=
  broadcastTo_apply _ _ _ _ (fun a => by match a with | ⟨0, _⟩ => rfl | ⟨1, _⟩ => rfl)

/-- A row vector laid along every row, at a row and a column. -/
theorem alongCols_apply (x : FVec Ideal S1x256 .f32) (i j : Fin 256) :
    broadcastTo S256x256 x broadcasts_S1x256_S256x256 (ix2 i j) = x (ix2 (0 : Fin 1) j) :=
  broadcastTo_apply _ _ _ _ (fun a => by match a with | ⟨0, _⟩ => rfl | ⟨1, _⟩ => rfl)

/-- A vector of row values laid along every column, at a row and a column. -/
theorem rowValue_apply (x : FVec Ideal S256 .f32) (i j : Fin 256) :
    broadcastTo S256x256 (shapeCast S256x1 x shapeCasts_S256_S256x1) broadcasts_S256x1_S256x256 (ix2 i j) = x (ix1 i) := by
  rw [alongRows_apply, shapeCast_apply _ _ _ (ix1 i) (by
      have h1 : (S256.rowMajor (ix1 i)).val = i.val := Shape.rowMajor_val_one _
      have h2 : (S256x1.rowMajor (ix2 i (0 : Fin 1))).val = i.val * 1 + (0 : Fin 1).val := Shape.rowMajor_val_two _
      rw [h1, h2]; simp)]

/-- The scores of the first nodes, as a column: the updated nodes' products with the upper half, then zeros. -/
def firstScores (t : FVec Ideal S128x256 .f32) (u : FVec Ideal S256x1 .f32) : FVec Ideal S256x1 .f32 :=
  concatenate S256x1 0 [⟨S128x1, matmul dot_S128x256_S256x1_S128x1_1_0_0_1_n_n none t u (constant S128x1 .f32 0x00000000#32)⟩,
    ⟨S128x1, broadcast S128x1 (Scalar.ofBits .f32 0x00000000#32)⟩] concatenates_S128x1_S128x1_S256x1_d0

/-- The scores of the second nodes, as a row: the lower half's products with the updated nodes, then zeros. -/
def secondScores (t : FVec Ideal S128x256 .f32) (u : FVec Ideal S256x1 .f32) : FVec Ideal S1x256 .f32 :=
  concatenate S1x256 1 [⟨S1x128, matmul dot_S256x1_S128x256_S1x128_0_1_1_0_n_n none u t (constant S1x128 .f32 0x00000000#32)⟩,
    ⟨S1x128, broadcast S1x128 (Scalar.ofBits .f32 0x00000000#32)⟩] concatenates_S1x128_S1x128_S1x256_d1

/-- The first nodes' scores, read at a node. -/
theorem firstScores_apply (t : FVec Ideal S128x256 .f32) (u : FVec Ideal S256x1 .f32) (i : Fin 256) :
    firstScores t u (ix2 i (0 : Fin 1)) = if hi : i.val < 128 then ∑ k : Fin 256, t (ix2 (⟨i.val, hi⟩ : Fin 128) k) * u (ix2 k (0 : Fin 1)) else 0 := by
  unfold firstScores
  by_cases hi : i.val < 128
  · rw [dif_pos hi, concatenate_pair_apply_left (t := S256x1) (s₁ := S128x1) (s₂ := S128x1) (0 : Fin 2) _ _ _ (ix2 i (0 : Fin 1)) rfl (ix2 (⟨i.val, hi⟩ : Fin 128) (0 : Fin 1))
      (fun b => by match b with | ⟨0, _⟩ => rfl | ⟨1, _⟩ => rfl)]
    show FloatOps.matmul (F := Ideal) (φ₁ := .f32) (φ₂ := .f32) (DotDims.plain 128 256 1) none t u (constant S128x1 .f32 0x00000000#32) _ = _
    rw [Ideal.matmul_plain_apply]
    show Ideal.ofBits .f32 0x00000000#32 + _ = _
    rw [Ideal.ofBits_zero_f32, zero_add]
  · rw [dif_neg hi, concatenate_pair_apply_right (t := S256x1) (s₁ := S128x1) (s₂ := S128x1) (0 : Fin 2) _ _ _ (ix2 i (0 : Fin 1)) rfl rfl
      (ix2 (⟨i.val - 128, by omega⟩ : Fin 128) (0 : Fin 1))
      (fun b hb => by match b, hb with | ⟨0, _⟩, hb => exact (hb rfl).elim | ⟨1, _⟩, _ => rfl)
      (by show i.val - 128 + 128 = i.val; omega)]
    exact Ideal.ofBits_zero_f32

/-- The lower half times the updated nodes, at a node: its contraction runs over the half's rows and the nodes' columns. -/
theorem lowerProduct_apply (t : FVec Ideal S128x256 .f32) (u : FVec Ideal S256x1 .f32) (j : Fin 128) :
    matmul dot_S256x1_S128x256_S1x128_0_1_1_0_n_n none u t (constant S1x128 .f32 0x00000000#32) (ix2 (0 : Fin 1) j)
      = ∑ k : Fin 256, u (ix2 k (0 : Fin 1)) * t (ix2 j k) := by
  show FloatOps.matmul dot_S256x1_S128x256_S1x128_0_1_1_0_n_n none u t (constant S1x128 .f32 0x00000000#32) _ = _
  rw [Ideal.matmul_constant_zero_apply, ← Equiv.sum_comp (contrEquiv1 dot_S256x1_S128x256_S1x128_0_1_1_0_n_n 256 rfl rfl).symm]
  refine Finset.sum_congr rfl fun k _ => ?_
  have hk := contrEquiv1_symm_val dot_S256x1_S128x256_S1x128_0_1_1_0_n_n 256 rfl rfl k
  congr 1
  · refine congrArg u (funext fun a => Fin.ext ?_)
    match a with
    | ⟨0, _⟩ => exact hk
    | ⟨1, _⟩ => rfl
  · refine congrArg t (funext fun a => Fin.ext ?_)
    match a with
    | ⟨0, _⟩ => rfl
    | ⟨1, _⟩ => exact hk

/-- The second nodes' scores, read at a node. -/
theorem secondScores_apply (t : FVec Ideal S128x256 .f32) (u : FVec Ideal S256x1 .f32) (j : Fin 256) :
    secondScores t u (ix2 (0 : Fin 1) j) = if hj : j.val < 128 then ∑ k : Fin 256, t (ix2 (⟨j.val, hj⟩ : Fin 128) k) * u (ix2 k (0 : Fin 1)) else 0 := by
  unfold secondScores
  by_cases hj : j.val < 128
  · rw [dif_pos hj, concatenate_pair_apply_left (t := S1x256) (s₁ := S1x128) (s₂ := S1x128) (1 : Fin 2) _ _ _ (ix2 (0 : Fin 1) j) rfl (ix2 (0 : Fin 1) (⟨j.val, hj⟩ : Fin 128))
      (fun b => by match b with | ⟨0, _⟩ => rfl | ⟨1, _⟩ => rfl), lowerProduct_apply]
    exact Finset.sum_congr rfl fun k _ => mul_comm _ _
  · rw [dif_neg hj, concatenate_pair_apply_right (t := S1x256) (s₁ := S1x128) (s₂ := S1x128) (1 : Fin 2) _ _ _ (ix2 (0 : Fin 1) j) rfl rfl
      (ix2 (0 : Fin 1) (⟨j.val - 128, by omega⟩ : Fin 128))
      (fun b hb => by match b, hb with | ⟨0, _⟩, _ => rfl | ⟨1, _⟩, hb => exact (hb rfl).elim)
      (by show j.val - 128 + 128 = j.val; omega)]
    exact Ideal.ofBits_zero_f32

/-- The masked scores the last point computes. -/
def maskedOf (t : FVec Ideal S128x256 .f32) (u₁ u₂ : FVec Ideal S256x1 .f32) (adj : FVec Ideal S256x256 .f32) : FVec Ideal S256x256 .f32 :=
  let e := addf (broadcastTo S256x256 (firstScores t u₁) broadcasts_S256x1_S256x256) (broadcastTo S256x256 (secondScores t u₂) broadcasts_S1x256_S256x256)
  select (cmpf .ogt adj (broadcast S256x256 (Scalar.ofBits .f32 0x00000000#32)))
    (maximumf e (mulf (broadcast S256x256 (Scalar.ofBits .f32 0x3E4CCCCD#32)) e)) (broadcast S256x256 (Scalar.ofBits .f32 0xD9FFCB9E#32))

/-- A choice by a greater-than comparison is a choice by the order. -/
theorem select_ogt {α : Type} (x y : EReal) (p q : α) : Scalar.select (Ideal.cmp .ogt x y) p q = if y < x then p else q := by
  unfold Ideal.cmp Scalar.select
  by_cases h : y < x <;> simp [h]

/-- The masked scores at a pair of nodes. -/
theorem maskedOf_apply (t : FVec Ideal S128x256 .f32) (u₁ u₂ : FVec Ideal S256x1 .f32) (adj : FVec Ideal S256x256 .f32) (i j : Fin 256) :
    maskedOf t u₁ u₂ adj (ix2 i j)
      = if 0 < adj (ix2 i j) then Cert.Attn.leaky (firstScores t u₁ (ix2 i (0 : Fin 1)) + secondScores t u₂ (ix2 (0 : Fin 1) j)) else Cert.Attn.noEdge := by
  show Scalar.select (Ideal.cmp .ogt (adj (ix2 i j)) (Ideal.ofBits .f32 0x00000000#32))
    (max (broadcastTo S256x256 (firstScores t u₁) broadcasts_S256x1_S256x256 (ix2 i j) + broadcastTo S256x256 (secondScores t u₂) broadcasts_S1x256_S256x256 (ix2 i j))
      (Cert.Attn.slope * (broadcastTo S256x256 (firstScores t u₁) broadcasts_S256x1_S256x256 (ix2 i j) + broadcastTo S256x256 (secondScores t u₂) broadcasts_S1x256_S256x256 (ix2 i j))))
    Cert.Attn.noEdge = _
  rw [alongRows_apply, alongCols_apply, Cert.Attn.max_slope, Ideal.ofBits_zero_f32, select_ogt]

/-- Each row's maximum, as the kernel reduces it. -/
def rowMaxes (x : FVec Ideal S256x256 .f32) : FVec Ideal S256 .f32 :=
  multiReduction .maximumf [1] S256 x 0xFF800000#32 reduces_S256x256_S256 (.inl rfl) rfl

/-- Each row's sum, as the kernel reduces it. -/
def rowSums (x : FVec Ideal S256x256 .f32) : FVec Ideal S256 .f32 :=
  multiReduction .add [1] S256 x 0x00000000#32 reduces_S256x256_S256 (.inl rfl) rfl

/-- The exponentials of a matrix less its row maxima, as the last point computes them. -/
def expOf (x : FVec Ideal S256x256 .f32) : FVec Ideal S256x256 .f32 :=
  exp (subf x (broadcastTo S256x256 (shapeCast S256x1 (rowMaxes x)
    shapeCasts_S256_S256x1) broadcasts_S256x1_S256x256))

/-- The word of the reduction's start is the least extended real. -/
theorem ofBits_negInf : Ideal.ofBits .f32 0xFF800000#32 = ⊥ := by simp [Ideal.ofBits, Ideal.ieee]

/-- A row's maximum as the kernel reduces it. -/
theorem rowMax_apply (x : FVec Ideal S256x256 .f32) (i : Fin 256) :
    rowMaxes x (ix1 i) = Cert.Attn.rowMax (fun i j => x (ix2 i j)) i := by
  refine (Ideal.multiReduction_maximumf_single (s := S256x256) (t := S256) (a := (1 : Fin 2)) x _ reduces_S256x256_S256 (.inl rfl) rfl (ix1 i)).trans ?_
  show Finset.fold max (Ideal.ofBits .f32 0xFF800000#32) _ _ = _
  rw [ofBits_negInf]
  refine Finset.fold_congr fun k _ => congrArg x (funext fun a => Fin.ext ?_)
  match a with
  | ⟨0, _⟩ => rfl
  | ⟨1, _⟩ => rfl

/-- A row's sum as the kernel reduces it. -/
theorem rowSum_apply (x : FVec Ideal S256x256 .f32) (i : Fin 256) : rowSums x (ix1 i) = ∑ k : Fin 256, x (ix2 i k) := by
  refine (Ideal.multiReduction_add_single (s := S256x256) (t := S256) (a := (1 : Fin 2)) x _ reduces_S256x256_S256 (.inl rfl) rfl (ix1 i)).trans ?_
  refine Finset.sum_congr rfl fun k _ => congrArg x (funext fun a => Fin.ext ?_)
  match a with
  | ⟨0, _⟩ => rfl
  | ⟨1, _⟩ => rfl

/-- The shifted exponentials at an entry. -/
theorem expOf_apply (x : FVec Ideal S256x256 .f32) (i j : Fin 256) : expOf x (ix2 i j) = Cert.Attn.expShift (fun i j => x (ix2 i j)) i j := by
  show Ideal.exp (x (ix2 i j) - broadcastTo S256x256 (shapeCast S256x1 (rowMaxes x)
    shapeCasts_S256_S256x1) broadcasts_S256x1_S256x256 (ix2 i j)) = _
  rw [rowValue_apply, rowMax_apply]
  rfl

/-- The attention matrix the last point stores is the normalized exponentials of the masked scores. -/
theorem pay5_apply (v0 v1 : FVec Ideal S128x256 .f32) (v2 v4 : FVec Ideal S256x256 .f32) (v6 v10 : FVec Ideal S256 .f32)
    (r z : FVec Ideal S128x256 .f32) (u₁ u₂ : FVec Ideal S256x1 .f32) (adj : FVec Ideal S256x256 .f32) (i j : Fin 256) :
    k0_pay5 (F := Ideal) v0 v1 v2 v4 v6 v10 r z u₁ u₂ adj (ix2 i j)
      = Cert.Attn.softmax (fun i j => maskedOf (stateOf v0 v1 v2 v4 v6 v10 r z) u₁ u₂ adj (ix2 i j)) i j := by
  have e : k0_pay5 (F := Ideal) v0 v1 v2 v4 v6 v10 r z u₁ u₂ adj
      = divf (expOf (maskedOf (stateOf v0 v1 v2 v4 v6 v10 r z) u₁ u₂ adj))
        (broadcastTo S256x256 (shapeCast S256x1 (rowSums (expOf (maskedOf (stateOf v0 v1 v2 v4 v6 v10 r z) u₁ u₂ adj))) shapeCasts_S256_S256x1) broadcasts_S256x1_S256x256) := rfl
  rw [e]
  generalize maskedOf (stateOf v0 v1 v2 v4 v6 v10 r z) u₁ u₂ adj = x
  show Ideal.div (expOf x (ix2 i j)) (broadcastTo S256x256 (shapeCast S256x1 (rowSums (expOf x)) shapeCasts_S256_S256x1) broadcasts_S256x1_S256x256 (ix2 i j)) = _
  rw [rowValue_apply, expOf_apply, rowSum_apply]
  exact congrArg (Ideal.div _) (Finset.sum_congr rfl fun k _ => expOf_apply x i k)

end Cert.KernelIdeal.Attn

end
-- ==== Proof.Output.lean ====
/- What the kernel leaves in its result array over the extended reals: the attention matrix of its argument arrays. -/
module

public import proofs.«01_k».proof.Proof.Blocks
public import proofs.«01_k».proof.Proof.Payload
public import Idealize.ShloMosaic.Lib.Pipeline.ValueKit.Geometry

@[expose] public section

noncomputable section

namespace Cert.KernelIdeal.Attn

open Idealize.ShloMosaic Idealize.ShloMosaic.TcCoe Idealize.ShloMosaic.ValueIdx
open Idealize.ShloMosaic.Pipeline (Dat)
open Idealize.SL.Sem
open Cert.KernelIdeal.Gen

section rows

variable (m : (ℓ : Loc nD τ sig) → Buf (Elt Ideal) ℓ) (c : Dev nD)

/-- The kernel's left neighbours. -/
abbrev lefts : Fin 128 → Fin 256 → EReal := Cert.Attn.leftNodes (m ((c : Thread nD τ).loc main_arg0))
/-- The kernel's right neighbours. -/
abbrev rights : Fin 128 → Fin 256 → EReal := Cert.Attn.rightNodes (m ((c : Thread nD τ).loc main_arg0))
/-- The kernel's input weights. -/
abbrev inW : Fin 768 → Fin 256 → EReal := Cert.Attn.weights (m ((c : Thread nD τ).loc main_arg2))
/-- The kernel's hidden weights. -/
abbrev hidW : Fin 768 → Fin 256 → EReal := Cert.Attn.weights (m ((c : Thread nD τ).loc main_arg3))
/-- The kernel's input biases. -/
abbrev inB : Fin 768 → EReal := Cert.Attn.biases (m ((c : Thread nD τ).loc main_arg4))
/-- The kernel's hidden biases. -/
abbrev hidB : Fin 768 → EReal := Cert.Attn.biases (m ((c : Thread nD τ).loc main_arg5))

/-- The left rows of the block at any point. -/
theorem left_at (t : Fin cfg0.N) (i : Fin 128) (k : Fin 256) : leftRows (F := Ideal) (X0_0 m c t) (ix2 i k) = lefts m c i k := by
  rw [leftRows_apply]; exact inputs_apply m c t _ k

/-- The right rows of the block at any point. -/
theorem right_at (t : Fin cfg0.N) (i : Fin 128) (k : Fin 256) : rightRows (F := Ideal) (X0_0 m c t) (ix2 i k) = rights m c i k := by
  rw [rightRows_apply]; exact inputs_apply m c t _ k

/-- The input projection at a point: the point's gate of the right neighbours. -/
theorem inProject_at (t : Fin cfg0.N) (i : Fin 128) (j : Fin 256) :
    k0_pay1 (F := Ideal) (rightRows (X0_0 m c t)) (iblk m c 2 t) (iblk m c 4 t) (ix2 i j)
      = Cert.Attn.project (rights m c) (inW m c) (inB m c) i (Cert.Attn.gateRow (gateNo t) j) := by
  rw [pay1_apply]
  refine congr_arg₂ (· + ·) (Finset.sum_congr rfl fun k _ => ?_) (inputBiases_apply m c t j)
  rw [right_at]
  exact congrArg (_ * ·) (inputWeights_apply m c t j k)

/-- The hidden projection at a point: the point's gate of the left neighbours. -/
theorem hidProject_at (t : Fin cfg0.N) (i : Fin 128) (j : Fin 256) :
    k0_pay2 (F := Ideal) (leftRows (X0_0 m c t)) (iblk m c 3 t) (iblk m c 5 t) (ix2 i j)
      = Cert.Attn.project (lefts m c) (hidW m c) (hidB m c) i (Cert.Attn.gateRow (gateNo t) j) := by
  rw [pay2_apply]
  refine congr_arg₂ (· + ·) (Finset.sum_congr rfl fun k _ => ?_) (hiddenBiases_apply m c t j)
  rw [left_at]
  exact congrArg (_ * ·) (hiddenWeights_apply m c t j k)

/-- The gate of a point. -/
theorem gate_at (t : Fin cfg0.N) (i : Fin 128) (j : Fin 256) :
    gateAt m c t (ix2 i j) = Cert.Attn.gate (lefts m c) (rights m c) (inW m c) (hidW m c) (inB m c) (hidB m c) (gateNo t) i j := by
  unfold gateAt gateOf
  rw [pay3_apply, inProject_at, hidProject_at]
  rfl

/-- The updated nodes the last point computes. -/
theorem state_at (i : Fin 128) (j : Fin 256) :
    stateOf (leftRows (X0_0 m c t0_2)) (rightRows (X0_0 m c t0_2)) (iblk m c 2 t0_2) (iblk m c 3 t0_2) (iblk m c 4 t0_2) (iblk m c 5 t0_2)
        (gateAt m c t0_0) (gateAt m c t0_1) (ix2 i j)
      = Cert.Attn.updated (lefts m c) (rights m c) (inW m c) (hidW m c) (inB m c) (hidB m c) i j := by
  rw [stateOf_apply _ _ _ _ _ _ _ _ i j (Cert.Attn.candidate (lefts m c) (rights m c) (inW m c) (hidW m c) (inB m c) (hidB m c) i j)
    (by rw [inProject_at, hidProject_at, gate_at]; rfl), gate_at, left_at]
  exact Cert.Attn.step_eq_updated _ _ _ _ _ _ i j

/-- The masked scores the last point computes. -/
theorem masked_at (i j : Fin 256) :
    maskedOf (stateOf (leftRows (X0_0 m c t0_2)) (rightRows (X0_0 m c t0_2)) (iblk m c 2 t0_2) (iblk m c 3 t0_2) (iblk m c 4 t0_2) (iblk m c 5 t0_2)
        (gateAt m c t0_0) (gateAt m c t0_1)) (upperHalf (F := Ideal) (iblk m c 6 t0_2)) (lowerHalf (F := Ideal) (iblk m c 6 t0_2)) (iblk m c 1 t0_2) (ix2 i j)
      = Cert.Attn.masked (Cert.Attn.updated (lefts m c) (rights m c) (inW m c) (hidW m c) (inB m c) (hidB m c))
          (Cert.Attn.scorer (m ((c : Thread nD τ).loc main_arg6))) (Cert.Attn.edges (m ((c : Thread nD τ).loc main_arg1))) i j := by
  rw [maskedOf_apply, firstScores_apply, secondScores_apply]
  unfold Cert.Attn.masked Cert.Attn.score
  rw [Cert.Attn.sum_nodes, Cert.Attn.sum_nodes, show (iblk m c 1 t0_2 : Vec Ideal S256x256 .f32) (ix2 i j) = Cert.Attn.edges (m ((c : Thread nD τ).loc main_arg1)) i j from
    adjacency_apply m c t0_2 i j]
  simp only [state_at, upperHalf_apply, lowerHalf_apply]
  have h (k : Fin 512) : (iblk m c 6 t0_2 : Vec Ideal S512x1 .f32) (ix2 k (0 : Fin 1)) = Cert.Attn.scorer (m ((c : Thread nD τ).loc main_arg6)) k :=
    vector_apply m c t0_2 k
  simp only [h]

/-- The matrix the last point stores. -/
theorem stored_at (i j : Fin 256) :
    attnAt m c t0_2 (ix2 i j)
      = Cert.Attn.attention (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) i j := by
  unfold attnAt attnOf
  rw [pay5_apply]
  unfold Cert.Attn.attention
  congr 1
  funext i j
  exact masked_at m c i j

/-- The attention matrix as an array. -/
def result : Vec Ideal S256x256 .f32 := fun p =>
  Cert.Attn.attention (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (p 0) (p 1)

/-- The stored matrix is the attention matrix. -/
theorem stored_eq : attnAt m c t0_2 = result m c := by
  funext p
  obtain ⟨i, j, rfl⟩ : ∃ i j : Fin 256, p = ix2 i j := ⟨p 0, p 1, eq_ix2 p⟩
  exact stored_at m c i j

/-- The result array after the run. -/
theorem final_eq : (dats m 0 c).arrAt 7 cfg0.N = result m c := by
  refine (dats m 0 c).arrAt_eq_of_after_last 7 t0_2 (by decide +kernel) (result m c) fun p => ?_
  rw [after_7, stored_eq]
  rfl

end rows

variable (m : (ℓ : Loc nD τ sig) → Buf (Elt Ideal) ℓ) (ρ : Dev nD → PrngReg)

/-- Every run of the kernel ends with the attention matrix in its result array. -/
theorem value_run : θ_run defs (onTc (τ := τ) (main (F := Ideal))) (s₀ m ρ) (fun r => ∀ c : Dev nD,
    r.2.mem ((c : Thread nD τ).loc main_v0) = result m c) :=
  (run_main m ρ).mono fun r h c => ((h.1 c).1 7).trans (final_eq m c)

end Cert.KernelIdeal.Attn

end
-- ==== Proof.Printed.lean ====
/- The kernel as printed and the kernel printed for the extended reals are one program: the run proved of the second, at
   any float values, is a run of the first. -/
module

public import proofs.«01_k».proof.Proof.Launch
public import proofs.«01_k».proof.Proof.Gen.Kernel

@[expose] public section

noncomputable section

namespace Cert.KernelIdeal.Attn

open Idealize.ShloMosaic Idealize.ShloMosaic.TcCoe Idealize.SL.Sem
open Cert.KernelIdeal Cert.KernelIdeal.Gen

variable {F : FTy → Type} [FloatOps F]

/-- At any float values: every run leaves the arguments as they were and every semaphore counter at zero. -/
theorem frame_any (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and
    (frame_of m g (dats m) (A_eq m) ((θ_run defs _ _).mono (fun _ h => h.1) (run_main m g)))
    ((θ_run defs _ _).mono (fun _ h => h.2) (run_main m g))

/-- The two programs call the same kernel function, on the same buffers. -/
theorem kernels_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl

/-- The two programs have the same body table. -/
theorem tables_eq : Cert.Kernel.defs (F := F) = Cert.KernelIdeal.defs (F := F) := congrArg (Pipeline.defs _) kernels_eq

end Cert.KernelIdeal.Attn

end
-- ==== Proof.Gathered.lean ====
/- The reference's two takes read at an entry: where the table of row numbers holds i + o, row i is row i + o of the inputs. -/
module

public import proofs.«01_k».proof.Proof.Gen.ReferenceIdeal.Read
public import Idealize.ShloMosaic.Lib.Routing.Ops
public import Idealize.ShloMosaic.Lib.ReduceAll

@[expose] public section

noncomputable section

namespace Cert.ReferenceIdeal.Attn

open Cert.ReferenceIdeal Cert.ReferenceIdeal.Gen Cert.ReferenceIdeal.Read
open Idealize.ShloMosaic Idealize.ShloMosaic.TcCoe Idealize.ShloMosaic.ValueIdx

variable {F : FTy → Type} [FloatOps F]

/-- A row number below 256 is not negative and at most 255. -/
theorem row_in_range (b : Fin 256) : IntOp.cmpi .slt (BitVec.ofNat 32 b.val) 0#32 = 0#1
    ∧ IntOp.andi (IntOp.cmpi .sge (BitVec.ofNat 32 b.val) 0#32) (IntOp.cmpi .sle (BitVec.ofNat 32 b.val) 255#32) = 1#1 := by
  revert b; decide +kernel

/-- The wrapped table: a row number below 256 is kept. -/
theorem wrapped_apply (x : (⟨S128, .i32⟩ : BufTy).Contents (Elt F)) (b : Fin 128 → Fin 256) (hx : ∀ i : Fin 128, x (ix1 i) = BitVec.ofNat 32 (b i).val)
    (i : Fin 128) (o : Fin 1) : val_main_call0_v5 (F := F) x (ix2 i o) = BitVec.ofNat 32 (b i).val := by
  rw [val_main_call0_v5_apply, show idx_main_call0_v5 (ix2 i o) = ix1 i from eq_ix1 _, val_main_call0_v4_apply, val_main_call0_v1_apply,
    val_main_call0_v0_apply, val_main_call0_c_apply, hx, (row_in_range (b i)).1]
  rfl

/-- Every row number is in range. -/
theorem mask_apply (x : (⟨S128, .i32⟩ : BufTy).Contents (Elt F)) (b : Fin 128 → Fin 256) (hx : ∀ i : Fin 128, x (ix1 i) = BitVec.ofNat 32 (b i).val)
    (i : S128.Idx) : val_main_call0_v12 (F := F) x i = 1#1 := by
  unfold val_main_call0_v12
  refine Host.reduce_andi_one _ _ _ _ _ rfl fun p => ?_
  obtain ⟨i, o, rfl⟩ : ∃ (i : Fin 128) (o : Fin 1), p = ix2 i o := ⟨p 0, p 1, eq_ix2 p⟩
  rw [val_main_call0_v11_apply, val_main_call0_v7_apply, val_main_call0_v10_apply, wrapped_apply x b hx, val_main_call0_v6_apply, val_main_call0_c_2_apply,
    val_main_call0_v9_apply, val_main_call0_v8_apply, val_main_call0_c_1_apply]
  exact (row_in_range (b i)).2

/-- The take of the left neighbours at an entry. -/
theorem take_apply (x0 : (⟨S256x256, .f32⟩ : BufTy).Contents (Elt F)) (x : (⟨S128, .i32⟩ : BufTy).Contents (Elt F)) (b : Fin 128 → Fin 256)
    (hx : ∀ i : Fin 128, x (ix1 i) = BitVec.ofNat 32 (b i).val) (i : Fin 128) (k : Fin 256) :
    val_main_v0 (F := F) x0 x (ix2 i k) = x0 (ix2 (b i) k) := by
  rw [val_main_v0_apply, val_main_call0_v14_apply, mask_apply x b hx]
  exact Routing.gather_row gather_S256x256_S128x1_S128x256_1_0_n_n_0_1_1256 rfl rfl rfl rfl rfl x0 _ i k (b i) (wrapped_apply x b hx i 0) (by decide)

/-- The take of the right neighbours is the same function. -/
theorem take_same (x0 : (⟨S256x256, .f32⟩ : BufTy).Contents (Elt F)) (x : (⟨S128, .i32⟩ : BufTy).Contents (Elt F)) :
    val_main_v1 (F := F) x0 x = val_main_v0 (F := F) x0 x := rfl

end Cert.ReferenceIdeal.Attn

end
-- ==== Proof.Updated.lean ====
/- The reference's gated update read at an entry over the extended reals: the two projections, the two gates, the candidate
   state and the updated nodes. -/
module

public import proofs.«01_k».proof.Proof.Gathered
public import proofs.«01_k».proof.Proof.Value
public import Idealize.ShloMosaic.Lib.IdealHost

@[expose] public section

noncomputable section

namespace Cert.ReferenceIdeal.Attn

open Cert.ReferenceIdeal Cert.ReferenceIdeal.Gen Cert.ReferenceIdeal.Read
open Idealize.ShloMosaic Idealize.ShloMosaic.TcCoe Idealize.ShloMosaic.ValueIdx
open Cert.Attn (gateRow project gate candidate updated leftNodes rightNodes weights biases)

/-- The tables the reference is given: node i is written at row i, from the rows i + 1 and i + 2 of the inputs. -/
structure Tables (x7 x8 x9 : (⟨S128, .i32⟩ : BufTy).Contents (Elt Ideal)) : Prop where
  node : ∀ i : Fin 128, x7 (ix1 i) = BitVec.ofNat 32 i.val
  left : ∀ i : Fin 128, x8 (ix1 i) = BitVec.ofNat 32 (i.val + 1)
  right : ∀ i : Fin 128, x9 (ix1 i) = BitVec.ofNat 32 (i.val + 2)

variable {x0 : (⟨S256x256, .f32⟩ : BufTy).Contents (Elt Ideal)} {x2 x3 : (⟨S768x256, .f32⟩ : BufTy).Contents (Elt Ideal)}
  {x4 x5 : (⟨S768, .f32⟩ : BufTy).Contents (Elt Ideal)} {x7 x8 x9 : (⟨S128, .i32⟩ : BufTy).Contents (Elt Ideal)}

/-- The left neighbours' take is the rows 1 to 128. -/
theorem left_apply (h : Tables x7 x8 x9) (i : Fin 128) (k : Fin 256) : val_main_v0 (F := Ideal) x0 x8 (ix2 i k) = leftNodes x0 i k :=
  take_apply x0 x8 (fun i => ⟨i.val + 1, by omega⟩) h.left i k

/-- The right neighbours' take is the rows 2 to 129. -/
theorem right_apply (h : Tables x7 x8 x9) (i : Fin 128) (k : Fin 256) : val_main_v1 (F := Ideal) x0 x9 (ix2 i k) = rightNodes x0 i k := by
  rw [take_same]
  exact take_apply x0 x9 (fun i => ⟨i.val + 2, by omega⟩) h.right i k

/-- The input projection. -/
theorem inProject_apply (h : Tables x7 x8 x9) (i : Fin 128) (j : Fin 768) :
    val_main_v6 (F := Ideal) x0 x2 x4 x9 (ix2 i j) = project (rightNodes x0) (weights x2) (biases x4) i j := by
  rw [val_main_v6_apply, val_main_v3_apply, val_main_v5_apply, val_main_v4_apply]
  refine congr_arg₂ (· + ·) (Finset.sum_congr rfl fun k _ => ?_) (congrArg x4 (eq_ix1 _))
  rw [val_main_v2_apply]
  exact congr_arg₂ (· * ·) ((congrArg _ (eq_ix2 _)).trans (right_apply h i k)) (congrArg x2 (eq_ix2 _))

/-- The hidden projection. -/
theorem hidProject_apply (h : Tables x7 x8 x9) (i : Fin 128) (j : Fin 768) :
    val_main_v11 (F := Ideal) x0 x3 x5 x8 (ix2 i j) = project (leftNodes x0) (weights x3) (biases x5) i j := by
  rw [val_main_v11_apply, val_main_v8_apply, val_main_v10_apply, val_main_v9_apply]
  refine congr_arg₂ (· + ·) (Finset.sum_congr rfl fun k _ => ?_) (congrArg x5 (eq_ix1 _))
  rw [val_main_v7_apply]
  exact congr_arg₂ (· * ·) ((congrArg _ (eq_ix2 _)).trans (left_apply h i k)) (congrArg x3 (eq_ix2 _))

/-- An entry of a matrix of 768 columns at a column of gate `g`. -/
theorem at_gate (y : (⟨S128x768, .f32⟩ : BufTy).Contents (Elt Ideal)) (g : Fin 3) (i : Fin 128) (j : Fin 256) (p : S128x768.Idx)
    (h0 : (p 0).val = i.val) (h1 : (p 1).val = 256 * g.val + j.val) : y p = y (ix2 i (gateRow g j)) := by
  refine congrArg y (funext fun a => Fin.ext ?_)
  match a with
  | ⟨0, _⟩ => exact h0
  | ⟨1, _⟩ => exact h1

/-- The reset gate. -/
theorem reset_apply (h : Tables x7 x8 x9) (i : Fin 128) (j : Fin 256) : val_main_v24 (F := Ideal) x0 x2 x3 x4 x5 x8 x9 (ix2 i j)
    = gate (leftNodes x0) (rightNodes x0) (weights x2) (weights x3) (biases x4) (biases x5) 0 i j := by
  rw [val_main_v24_apply, val_main_v23_apply, val_main_cst_0_apply, val_main_v22_apply, val_main_v21_apply, val_main_cst_apply, val_main_v20_apply,
    val_main_v19_apply, val_main_v18_apply, val_main_v12_apply, val_main_v15_apply,
    at_gate (val_main_v6 (F := Ideal) x0 x2 x4 x9) 0 i j (idx_main_v12 (ix2 i j)) rfl (by show j.val = 256 * 0 + j.val; omega),
    at_gate (val_main_v11 (F := Ideal) x0 x3 x5 x8) 0 i j (idx_main_v15 (ix2 i j)) rfl (by show j.val = 256 * 0 + j.val; omega),
    inProject_apply h, hidProject_apply h]
  show Ideal.div (Ideal.ofBits .f32 0x3F800000#32) (Ideal.ofBits .f32 0x3F800000#32 + Ideal.exp (-(_ + _))) = _
  rw [Ideal.ofBits_one_f32]
  rfl

/-- The update gate. -/
theorem update_apply (h : Tables x7 x8 x9) (i : Fin 128) (j : Fin 256) : val_main_v31 (F := Ideal) x0 x2 x3 x4 x5 x8 x9 (ix2 i j)
    = gate (leftNodes x0) (rightNodes x0) (weights x2) (weights x3) (biases x4) (biases x5) 1 i j := by
  rw [val_main_v31_apply, val_main_v30_apply, val_main_cst_2_apply, val_main_v29_apply, val_main_v28_apply, val_main_cst_1_apply, val_main_v27_apply,
    val_main_v26_apply, val_main_v25_apply, val_main_v13_apply, val_main_v16_apply,
    at_gate (val_main_v6 (F := Ideal) x0 x2 x4 x9) 1 i j (idx_main_v13 (ix2 i j)) rfl rfl, at_gate (val_main_v11 (F := Ideal) x0 x3 x5 x8) 1 i j (idx_main_v16 (ix2 i j)) rfl rfl,
    inProject_apply h, hidProject_apply h]
  show Ideal.div (Ideal.ofBits .f32 0x3F800000#32) (Ideal.ofBits .f32 0x3F800000#32 + Ideal.exp (-(_ + _))) = _
  rw [Ideal.ofBits_one_f32]
  rfl

/-- The candidate state. -/
theorem candidate_apply (h : Tables x7 x8 x9) (i : Fin 128) (j : Fin 256) : val_main_v34 (F := Ideal) x0 x2 x3 x4 x5 x8 x9 (ix2 i j)
    = candidate (leftNodes x0) (rightNodes x0) (weights x2) (weights x3) (biases x4) (biases x5) i j := by
  rw [val_main_v34_apply, val_main_v33_apply, val_main_v32_apply, reset_apply h, val_main_v14_apply, val_main_v17_apply,
    at_gate (val_main_v6 (F := Ideal) x0 x2 x4 x9) 2 i j (idx_main_v14 (ix2 i j)) rfl rfl, at_gate (val_main_v11 (F := Ideal) x0 x3 x5 x8) 2 i j (idx_main_v17 (ix2 i j)) rfl rfl,
    inProject_apply h, hidProject_apply h]
  rfl

/-- The updated nodes. -/
theorem updated_apply (h : Tables x7 x8 x9) (i : Fin 128) (j : Fin 256) : val_main_v39 (F := Ideal) x0 x2 x3 x4 x5 x8 x9 (ix2 i j)
    = updated (leftNodes x0) (rightNodes x0) (weights x2) (weights x3) (biases x4) (biases x5) i j := by
  rw [val_main_v39_apply, val_main_v37_apply, val_main_v38_apply, val_main_v36_apply, val_main_v35_apply, val_main_cst_3_apply,
    update_apply h, candidate_apply h, left_apply h]
  show (Ideal.ofBits .f32 0x3F800000#32 - _) * _ + _ * _ = _
  rw [Ideal.ofBits_one_f32]
  rfl

end Cert.ReferenceIdeal.Attn

end
-- ==== Proof.Scattered.lean ====
/- The reference's scatter read at an entry: the updated nodes in the first 128 rows, zeros below. -/
module

public import proofs.«01_k».proof.Proof.Updated
public import Idealize.ShloMosaic.Lib.Routing.OpsSet
public import Idealize.ShloMosaic.Lib.Routing.OpsPair

@[expose] public section

noncomputable section

namespace Cert.ReferenceIdeal.Attn

open Cert.ReferenceIdeal Cert.ReferenceIdeal.Gen Cert.ReferenceIdeal.Read
open Idealize.ShloMosaic Idealize.ShloMosaic.TcCoe Idealize.ShloMosaic.ValueIdx
open Cert.Attn (updated leftNodes rightNodes weights biases nodes)

/-- A row number below 128 as a signed number is itself. -/
theorem row_signed (b : Fin 128) : (BitVec.ofNat 32 b.val).toInt = (b.val : Int) := by
  revert b; decide +kernel

/-- Where the update of row `q` and column `k` lands: row `q`, column `k`. -/
theorem lands (idx : (⟨S128x1, .i32⟩ : BufTy).Contents (Elt Ideal)) (hidx : ∀ i : Fin 128, idx (ix2 i (0 : Fin 1)) = BitVec.ofNat 32 i.val)
    (q : Fin 128) (k : Fin 256) (r c : Fin 256) :
    scatter_S256x256_S128x1_S128x256_1_0_0_1.resultIdx? (ix2 q k) idx = some (ix2 r c) ↔ q.val = r.val ∧ k = c := by
  have hstart0 : scatter_S256x256_S128x1_S128x256_1_0_0_1.start (ix2 q k) idx 0 = (q.val : Int) := by
    unfold ScatterDims.start
    rw [dif_pos (by decide), ← row_signed q, ← hidx q]
    refine congrArg (fun p => (idx p).toInt) (funext fun a => Fin.ext ?_)
    match a with
    | ⟨0, _⟩ => rfl
    | ⟨1, _⟩ => rfl
  have hstart1 : scatter_S256x256_S128x1_S128x256_1_0_0_1.start (ix2 q k) idx 1 = 0 := by
    unfold ScatterDims.start
    rw [dif_neg (by decide)]
  have hwin0 : scatter_S256x256_S128x1_S128x256_1_0_0_1.window (ix2 q k) 0 = 0 := by
    unfold ScatterDims.window
    rw [dif_neg (by decide)]
  have hwin1 : scatter_S256x256_S128x1_S128x256_1_0_0_1.window (ix2 q k) 1 = k.val := by
    unfold ScatterDims.window
    rw [dif_pos (by decide)]
    rfl
  rw [Fin.ext_iff]
  refine (Routing.resultIdx?_ix2 scatter_S256x256_S128x1_S128x256_1_0_0_1 (ix2 q k) idx r c).trans ?_
  rw [hstart0, hstart1, hwin0, hwin1]
  omega

variable {x0 : (⟨S256x256, .f32⟩ : BufTy).Contents (Elt Ideal)} {x2 x3 : (⟨S768x256, .f32⟩ : BufTy).Contents (Elt Ideal)}
  {x4 x5 : (⟨S768, .f32⟩ : BufTy).Contents (Elt Ideal)} {x7 x8 x9 : (⟨S128, .i32⟩ : BufTy).Contents (Elt Ideal)}

/-- The table of rows the scatter is given. -/
theorem rows_apply (h : Tables x7 x8 x9) (i : Fin 128) : val_main_v46 (F := Ideal) x7 (ix2 i (0 : Fin 1)) = BitVec.ofNat 32 i.val := by
  rw [val_main_v46_apply, show idx_main_v46 (ix2 i (0 : Fin 1)) = ix1 i from eq_ix1 _, val_main_v45_apply, val_main_v42_apply, val_main_v41_apply,
    val_main_c_apply, h.node, (row_in_range (⟨i.val, by omega⟩ : Fin 256)).1]
  rfl

/-- All nodes: the updated ones, then zeros. -/
theorem nodes_apply (h : Tables x7 x8 x9) (r c : Fin 256) : val_main_v47 (F := Ideal) x0 x2 x3 x4 x5 x7 x8 x9 (ix2 r c)
    = nodes (updated (leftNodes x0) (rightNodes x0) (weights x2) (weights x3) (biases x4) (biases x5)) r c := by
  unfold val_main_v47 nodes
  by_cases hr : r.val < 128
  · rw [dif_pos hr, ← updated_apply h]
    refine Routing.scatter_set_hit _ _ _ _ _ _ (fun p hp => ?_) (ix2 (⟨r.val, hr⟩ : Fin 128) c) ((lands _ (rows_apply h) _ _ r c).2 ⟨rfl, rfl⟩)
    obtain ⟨q, k, rfl⟩ : ∃ (q : Fin 128) (k : Fin 256), p = ix2 q k := ⟨p 0, p 1, eq_ix2 p⟩
    obtain ⟨hq, rfl⟩ := (lands _ (rows_apply h) q k r c).1 hp
    exact congrArg (fun q => val_main_v39 (F := Ideal) x0 x2 x3 x4 x5 x8 x9 (ix2 q k)) (Fin.ext hq)
  · rw [dif_neg hr]
    refine (Routing.scatter_set_miss _ _ _ _ _ fun p hp => ?_).trans ?_
    · obtain ⟨q, k, rfl⟩ : ∃ (q : Fin 128) (k : Fin 256), p = ix2 q k := ⟨p 0, p 1, eq_ix2 p⟩
      have := ((lands _ (rows_apply h) q k r c).1 hp).1
      omega
    · rw [val_main_v40_apply, val_main_cst_4_apply]
      exact Ideal.ofBits_zero_f32

end Cert.ReferenceIdeal.Attn

end
-- ==== Proof.Scores.lean ====
/- The reference's masked scores read at a pair of nodes: every ordered pair of nodes side by side, times the attention
   vector, through the leaky rectifier, masked where there is no edge. -/
module

public import proofs.«01_k».proof.Proof.Scattered

@[expose] public section

noncomputable section

namespace Cert.ReferenceIdeal.Attn

open Cert.ReferenceIdeal Cert.ReferenceIdeal.Gen Cert.ReferenceIdeal.Read
open Idealize.ShloMosaic Idealize.ShloMosaic.TcCoe Idealize.ShloMosaic.ValueIdx
open Cert.Attn (updated leftNodes rightNodes weights biases scorer edges nodes score masked firstHalf secondHalf)

variable {x0 x1 : (⟨S256x256, .f32⟩ : BufTy).Contents (Elt Ideal)} {x2 x3 : (⟨S768x256, .f32⟩ : BufTy).Contents (Elt Ideal)}
  {x4 x5 : (⟨S768, .f32⟩ : BufTy).Contents (Elt Ideal)} {x6 : (⟨S512x1, .f32⟩ : BufTy).Contents (Elt Ideal)}
  {x7 x8 x9 : (⟨S128, .i32⟩ : BufTy).Contents (Elt Ideal)}

/-- The updated nodes of the reference's arrays. -/
abbrev upd (x0 : (⟨S256x256, .f32⟩ : BufTy).Contents (Elt Ideal)) (x2 x3 : (⟨S768x256, .f32⟩ : BufTy).Contents (Elt Ideal))
    (x4 x5 : (⟨S768, .f32⟩ : BufTy).Contents (Elt Ideal)) : Fin 128 → Fin 256 → EReal :=
  updated (leftNodes x0) (rightNodes x0) (weights x2) (weights x3) (biases x4) (biases x5)

/-- The number of the ordered pair of nodes `i` and `j`. -/
def pair (i j : Fin 256) : Fin 65536 := ⟨i.val * 256 + j.val, by omega⟩

/-- The repeated nodes: at the pair (i, j), node i. -/
theorem firsts_apply (h : Tables x7 x8 x9) (i j k : Fin 256) :
    val_main_v51 (F := Ideal) x0 x2 x3 x4 x5 x7 x8 x9 (ix2 (pair i j) k) = nodes (upd x0 x2 x3 x4 x5) i k := by
  rw [val_main_v51_apply, val_main_v50_apply, val_main_v49_apply, val_main_v48_apply, ← nodes_apply h]
  refine congrArg _ (funext fun a => Fin.ext ?_)
  match a with
  | ⟨0, _⟩ =>
    show (((0 * 256 + ((((i.val * 256 + j.val) * 256 + k.val) / 65536) * 65536 + ((i.val * 256 + j.val) * 256 + k.val) % 65536) / 65536 % 256) * 1 + 0) * 256
      + ((((i.val * 256 + j.val) * 256 + k.val) / 65536) * 65536 + ((i.val * 256 + j.val) * 256 + k.val) % 65536) % 256) / 256 = i.val
    omega
  | ⟨1, _⟩ =>
    show (((0 * 256 + ((((i.val * 256 + j.val) * 256 + k.val) / 65536) * 65536 + ((i.val * 256 + j.val) * 256 + k.val) % 65536) / 65536 % 256) * 1 + 0) * 256
      + ((((i.val * 256 + j.val) * 256 + k.val) / 65536) * 65536 + ((i.val * 256 + j.val) * 256 + k.val) % 65536) % 256) % 256 = k.val
    omega

/-- The tiled nodes: at the pair (i, j), node j. -/
theorem seconds_apply (h : Tables x7 x8 x9) (i j k : Fin 256) :
    val_main_v54 (F := Ideal) x0 x2 x3 x4 x5 x7 x8 x9 (ix2 (pair i j) k) = nodes (upd x0 x2 x3 x4 x5) j k := by
  rw [val_main_v54_apply, val_main_v53_apply, val_main_v52_apply, ← nodes_apply h]
  refine congrArg _ (funext fun a => Fin.ext ?_)
  match a with
  | ⟨0, _⟩ =>
    show (((0 * 256 + ((i.val * 256 + j.val) * 256 + k.val) / 256 % 256) * 1 + 0) * 256 + ((i.val * 256 + j.val) * 256 + k.val) % 256) / 256 = j.val
    omega
  | ⟨1, _⟩ =>
    show (((0 * 256 + ((i.val * 256 + j.val) * 256 + k.val) / 256 % 256) * 1 + 0) * 256 + ((i.val * 256 + j.val) * 256 + k.val) % 256) % 256 = k.val
    omega

/-- A pair's features in the first half: those of node i. -/
theorem pairs_first (h : Tables x7 x8 x9) (i j k : Fin 256) :
    val_main_v55 (F := Ideal) x0 x2 x3 x4 x5 x7 x8 x9 (ix2 (pair i j) (firstHalf k)) = nodes (upd x0 x2 x3 x4 x5) i k := by
  unfold val_main_v55
  rw [concatenate_pair_apply_left (t := S65536x512) (s₁ := S65536x256) (s₂ := S65536x256) (1 : Fin 2) _ _ _ (ix2 (pair i j) (firstHalf k)) rfl
    (ix2 (pair i j) k) (fun b => by match b with | ⟨0, _⟩ => rfl | ⟨1, _⟩ => rfl)]
  exact firsts_apply h i j k

/-- A pair's features in the second half: those of node j. -/
theorem pairs_second (h : Tables x7 x8 x9) (i j k : Fin 256) :
    val_main_v55 (F := Ideal) x0 x2 x3 x4 x5 x7 x8 x9 (ix2 (pair i j) (secondHalf k)) = nodes (upd x0 x2 x3 x4 x5) j k := by
  unfold val_main_v55
  rw [concatenate_pair_apply_right (t := S65536x512) (s₁ := S65536x256) (s₂ := S65536x256) (1 : Fin 2) _ _ _ (ix2 (pair i j) (secondHalf k)) rfl rfl
    (ix2 (pair i j) k) (fun b hb => by match b, hb with | ⟨0, _⟩, _ => rfl | ⟨1, _⟩, hb => exact (hb rfl).elim)
    (by show k.val + 256 = 256 + k.val; omega)]
  exact seconds_apply h i j k

/-- A pair's features, from the pair's row. -/
theorem features_apply (i j : Fin 256) (k : Fin 512) (o : Fin 1) (p : S256x256x1.Idx) (h0 : (p 0).val = i.val) (h1 : (p 1).val = j.val) :
    val_main_v56 (F := Ideal) x0 x2 x3 x4 x5 x7 x8 x9 (lidx_main_v57 p k) = val_main_v55 (F := Ideal) x0 x2 x3 x4 x5 x7 x8 x9 (ix2 (pair i j) k) := by
  rw [val_main_v56_apply]
  refine congrArg _ (funext fun a => Fin.ext ?_)
  match a with
  | ⟨0, _⟩ =>
    show (((p 0).val * 256 + (p 1).val) * 512 + k.val) / 512 = i.val * 256 + j.val
    rw [h0, h1]; omega
  | ⟨1, _⟩ =>
    show (((p 0).val * 256 + (p 1).val) * 512 + k.val) % 512 = k.val
    omega

/-- A pair's score. -/
theorem score_apply (h : Tables x7 x8 x9) (i j : Fin 256) :
    val_main_v58 (F := Ideal) x0 x2 x3 x4 x5 x6 x7 x8 x9 (ix2 i j) = score (upd x0 x2 x3 x4 x5) (scorer x6) i j := by
  rw [val_main_v58_apply, val_main_v57_apply, Cert.Attn.sum_halves]
  have hp0 : ((idx_main_v58 (ix2 i j)) 0).val = i.val := by show (i.val * 256 + j.val) / 256 = i.val; omega
  have hp1 : ((idx_main_v58 (ix2 i j)) 1).val = j.val := by show (i.val * 256 + j.val) / 1 % 256 = j.val; omega
  refine congr_arg₂ (· + ·) (Finset.sum_congr rfl fun k _ => ?_) (Finset.sum_congr rfl fun k _ => ?_)
  · rw [features_apply i j _ 0 _ hp0 hp1, pairs_first h]
    exact congrArg (_ * ·) (congrArg x6 (eq_ix2 _))
  · rw [features_apply i j _ 0 _ hp0 hp1, pairs_second h]
    exact congrArg (_ * ·) (congrArg x6 (eq_ix2 _))

/-- A choice by a comparison is a choice by the order. -/
theorem select_oge {α : Type} (x y : EReal) (p q : α) : Scalar.select (Ideal.cmp .oge x y) p q = if y ≤ x then p else q := by
  unfold Ideal.cmp Scalar.select
  by_cases h : y ≤ x <;> simp [h]

/-- A choice by a strict comparison is a choice by the order. -/
theorem select_ogt {α : Type} (x y : EReal) (p q : α) : Scalar.select (Ideal.cmp .ogt x y) p q = if y < x then p else q := by
  unfold Ideal.cmp Scalar.select
  by_cases h : y < x <;> simp [h]

/-- A pair's score through the leaky rectifier. -/
theorem leaky_apply (h : Tables x7 x8 x9) (i j : Fin 256) :
    val_main_v59 (F := Ideal) x0 x2 x3 x4 x5 x6 x7 x8 x9 (ix2 i j) = Cert.Attn.leaky (score (upd x0 x2 x3 x4 x5) (scorer x6) i j) := by
  rw [val_main_v59_apply, val_main_call2_v1_apply, val_main_call2_v0_apply, val_main_call2_cst_apply, val_main_call2_v4_apply, val_main_call2_v3_apply,
    val_main_call2_v2_apply, val_main_cst_6_apply, score_apply h]
  show Scalar.select (Ideal.cmp .oge _ (Ideal.ofBits .f32 0x00000000#32)) _ _ = _
  rw [Ideal.ofBits_zero_f32, select_oge]
  rfl

/-- The word that marks a missing edge. -/
theorem noEdge_apply (i j : Fin 256) : val_main_v62 (F := Ideal) (ix2 i j) = Cert.Attn.noEdge := by
  rw [val_main_v62_apply, val_main_v61_apply, val_main_cst_8_apply, val_main_v60_apply, val_main_cst_7_apply]
  show Ideal.ofBits .f32 0xD9FFCB9E#32 * Ideal.ofBits .f32 0x3F800000#32 = _
  rw [Ideal.ofBits_one_f32, mul_one]
  rfl

/-- A pair's masked score. -/
theorem masked_apply (h : Tables x7 x8 x9) (i j : Fin 256) :
    val_main_v65 (F := Ideal) x0 x1 x2 x3 x4 x5 x6 x7 x8 x9 (ix2 i j) = masked (upd x0 x2 x3 x4 x5) (scorer x6) (edges x1) i j := by
  rw [val_main_v65_apply, val_main_v64_apply, val_main_v63_apply, val_main_cst_9_apply, leaky_apply h, noEdge_apply]
  show Scalar.select (Ideal.cmp .ogt _ (Ideal.ofBits .f32 0x00000000#32)) _ _ = _
  rw [Ideal.ofBits_zero_f32, select_ogt]
  rfl

end Cert.ReferenceIdeal.Attn

end
-- ==== Proof.Softmax.lean ====
/- The reference's result read at a pair of nodes: the exponentials of the masked scores less their row's greatest,
   divided by their row's sum. -/
module

public import proofs.«01_k».proof.Proof.Scores
public import Idealize.ShloMosaic.Lib.KernelVsHost

@[expose] public section

noncomputable section

namespace Cert.ReferenceIdeal.Attn

open Cert.ReferenceIdeal Cert.ReferenceIdeal.Gen Cert.ReferenceIdeal.Read
open Idealize.ShloMosaic Idealize.ShloMosaic.TcCoe Idealize.ShloMosaic.ValueIdx
open Cert.Attn (scorer edges masked rowMax expShift softmax attention)

variable {x0 x1 : (⟨S256x256, .f32⟩ : BufTy).Contents (Elt Ideal)} {x2 x3 : (⟨S768x256, .f32⟩ : BufTy).Contents (Elt Ideal)}
  {x4 x5 : (⟨S768, .f32⟩ : BufTy).Contents (Elt Ideal)} {x6 : (⟨S512x1, .f32⟩ : BufTy).Contents (Elt Ideal)}
  {x7 x8 x9 : (⟨S128, .i32⟩ : BufTy).Contents (Elt Ideal)}

/-- The word of the maximum's start is the least extended real. -/
theorem ofBits_negInf : Ideal.ofBits .f32 0xFF800000#32 = ⊥ := by simp [Ideal.ofBits, Ideal.ieee]

/-- A matrix loses its columns to a reduction over them. -/
theorem columns_reduced : S256x256.Reduces [1] S256 := by decide

/-- The greatest entry of a row, as the reference reduces it. -/
theorem hostMax_apply (x : FVec Ideal S256x256 .f32) (i : Fin 256) :
    Host.reduce FloatOps.maximumf x (val_main_cst_10 (F := Ideal)) reducesTo_S256x256_S256_d1 h_S_ (ix1 i)
      = rowMax (fun i j => x (ix2 i j)) i := by
  unfold val_main_cst_10
  refine (congrFun (hostReduce_maximumf_eq_multiReduction x 0xFF800000#32 reducesTo_S256x256_S256_d1 h_S_ columns_reduced (.inl rfl) rfl) (ix1 i)).trans ?_
  refine (Ideal.multiReduction_maximumf_single (s := S256x256) (t := S256) (a := (1 : Fin 2)) x _ columns_reduced (.inl rfl) rfl (ix1 i)).trans ?_
  show Finset.fold max (Ideal.ofBits .f32 0xFF800000#32) _ _ = _
  rw [ofBits_negInf]
  refine Finset.fold_congr fun k _ => congrArg x (funext fun a => Fin.ext ?_)
  match a with
  | ⟨0, _⟩ => rfl
  | ⟨1, _⟩ => rfl

/-- The masked scores of the reference's arrays. -/
abbrev scores (x0 x1 : (⟨S256x256, .f32⟩ : BufTy).Contents (Elt Ideal)) (x2 x3 : (⟨S768x256, .f32⟩ : BufTy).Contents (Elt Ideal))
    (x4 x5 : (⟨S768, .f32⟩ : BufTy).Contents (Elt Ideal)) (x6 : (⟨S512x1, .f32⟩ : BufTy).Contents (Elt Ideal)) : Fin 256 → Fin 256 → EReal :=
  masked (upd x0 x2 x3 x4 x5) (scorer x6) (edges x1)

/-- Each row's shift: its greatest masked score. -/
theorem shift_apply (h : Tables x7 x8 x9) (i : Fin 256) :
    val_main_v68 (F := Ideal) x0 x1 x2 x3 x4 x5 x6 x7 x8 x9 (ix1 i) = rowMax (scores x0 x1 x2 x3 x4 x5 x6) i := by
  rw [val_main_v68_apply, val_main_v67_apply, val_main_cst_11_apply]
  unfold val_main_v66
  rw [hostMax_apply]
  show max (Ideal.ofBits .f32 0xFF800000#32) _ = _
  rw [ofBits_negInf, max_eq_right bot_le]
  exact congrArg (rowMax · i) (funext fun i => funext fun j => masked_apply h i j)

/-- The shifted exponentials. -/
theorem exp_apply (h : Tables x7 x8 x9) (i j : Fin 256) :
    val_main_v72 (F := Ideal) x0 x1 x2 x3 x4 x5 x6 x7 x8 x9 (ix2 i j) = expShift (scores x0 x1 x2 x3 x4 x5 x6) i j := by
  rw [val_main_v72_apply, val_main_v71_apply, val_main_v70_apply, val_main_v69_apply, masked_apply h]
  have e : idx_main_v69 (idx_main_v70 (ix2 i j)) = ix1 i := funext fun a => Fin.ext (by match a with | ⟨0, _⟩ => rfl)
  rw [e, shift_apply h]
  rfl

/-- Each row's divisor: the sum of its exponentials. -/
theorem divisor_apply (h : Tables x7 x8 x9) (i j : Fin 256) :
    val_main_v75 (F := Ideal) x0 x1 x2 x3 x4 x5 x6 x7 x8 x9 (ix2 i j) = ∑ k : Fin 256, expShift (scores x0 x1 x2 x3 x4 x5 x6) i k := by
  rw [val_main_v75_apply, val_main_v74_apply, val_main_v73_apply, val_main_cst_12_apply]
  show Ideal.ofBits .f32 0x00000000#32 + _ = _
  rw [Ideal.ofBits_zero_f32, zero_add]
  refine Finset.sum_congr rfl fun k _ => ?_
  rw [← exp_apply h]
  exact congrArg _ (funext fun a => Fin.ext (by match a with | ⟨0, _⟩ => rfl | ⟨1, _⟩ => rfl))

/-- The reference's result is the attention matrix. -/
theorem value_apply (h : Tables x7 x8 x9) (i j : Fin 256) :
    val_main_v76 (F := Ideal) x0 x1 x2 x3 x4 x5 x6 x7 x8 x9 (ix2 i j) = attention x0 x1 x2 x3 x4 x5 x6 i j := by
  rw [val_main_v76_apply, exp_apply h, divisor_apply h]
  rfl

/-- The reference's result as an array. -/
theorem value_eq (h : Tables x7 x8 x9) :
    val_main_v76 (F := Ideal) x0 x1 x2 x3 x4 x5 x6 x7 x8 x9 = fun p => attention x0 x1 x2 x3 x4 x5 x6 (p 0) (p 1) := by
  funext p
  obtain ⟨i, j, rfl⟩ : ∃ i j : Fin 256, p = ix2 i j := ⟨p 0, p 1, eq_ix2 p⟩
  exact value_apply h i j

end Cert.ReferenceIdeal.Attn

end
-- ==== Proof.Precondition.lean ====
/- What the precondition says of the three index tables: entry i of them is i, i + 1 and i + 2. -/
module

public import proofs.«01_k».proof.Proof.Updated
public import proofs.«01_k».proof.Pre_node_table
public import proofs.«01_k».proof.Proof.Gen.Pre_node_table
public import Idealize.ShloMosaic.Lib.ReduceAll

@[expose] public section

noncomputable section

namespace Cert.ReferenceIdeal.Attn

open Idealize.ShloMosaic Idealize.ShloMosaic.ValueIdx

/-- Two words that compare equal are equal. -/
theorem eq_of_compared {x y : BitVec 32} (h : IntOp.cmpi .eq x y = 1#1) : x = y := by
  by_contra e
  exact absurd h (by simp [IntOp.cmpi, beq_eq_false_iff_ne.2 e])

/-- A number plus one, as a word. -/
theorem ofNat_add (n k : ℕ) : IntOp.addi (BitVec.ofNat 32 n) (BitVec.ofNat 32 k) = BitVec.ofNat 32 (n + k) :=
  (BitVec.ofNat_add n k).symm

instance : Subsingleton Cert.Pre_node_table.S_.Idx := ⟨fun a b => funext fun d => d.elim0⟩

/-- Where the precondition holds, the tables list the nodes, their left and their right inputs in order. -/
theorem tables_of {y0 y1 : FVec Ideal Cert.Pre_node_table.S256x256 .f32} {y2 y3 : FVec Ideal Cert.Pre_node_table.S768x256 .f32}
    {y4 y5 : FVec Ideal Cert.Pre_node_table.S768 .f32} {y6 : FVec Ideal Cert.Pre_node_table.S512x1 .f32} {x7 x8 x9 : IVec Cert.Pre_node_table.S128 32}
    (p : Cert.Pre_node_table.S_.Idx)
    (h : @Cert.Pre_node_table.fn Cert.Pre_node_table.Gen.facts Ideal _ y0 y1 y2 y3 y4 y5 y6 x7 x8 x9 p = 1#1) : Tables x7 x8 x9 := by
  have all := Host.reduce_andi_all _ _ _ _ p h
  have parts := fun i : Fin 128 => (IntOp.andi_eq_one.1 (all (ix1 i)))
  have firsts := fun i : Fin 128 => (IntOp.andi_eq_one.1 (parts i).1)
  exact ⟨fun i => eq_of_compared (firsts i).1, fun i => (eq_of_compared (firsts i).2).trans (ofNat_add i.val 1),
    fun i => (eq_of_compared (parts i).2).trans (ofNat_add i.val 2)⟩

end Cert.ReferenceIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_node_table
public import proofs.«01_k».proof.Proof.Output
public import proofs.«01_k».proof.Proof.Printed
public import proofs.«01_k».proof.Proof.Softmax
public import proofs.«01_k».proof.Proof.Precondition
public import Idealize.ShloMosaic.Adequacy
public import Idealize.ShloMosaic.Init

@[expose] public section

noncomputable section

namespace Cert.Proof

open Idealize.ShloMosaic Idealize.SL.Sem Cert.Kernel

/-- Every run of the kernel as printed leaves the arguments as they were and every counter at zero. -/
theorem printed_frame : @Cert.quiescent_Kernel Cert.Kernel.Gen.facts := fun m g _ => by
  rw [Cert.KernelIdeal.Attn.tables_eq]
  exact Cert.KernelIdeal.Attn.frame_any (F := Bits) m g

/-- Every run of the kernel over the extended reals leaves the arguments as they were and every counter at zero. -/
theorem kernel_frame : @Cert.quiescent_KernelIdeal Cert.KernelIdeal.Gen.facts := fun m g _ =>
  Cert.KernelIdeal.Attn.frame_any (F := Ideal) m g

/-- Every run of the reference leaves the arguments as they were and every counter at zero. -/
theorem reference_frame : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- From memories that agree on the arguments, the tables listing the nodes in order, the kernel and the reference both
    end with the attention matrix. -/
theorem same_result : @Cert.algebraic_KernelIdeal_ReferenceIdeal_pre_node_table Cert.KernelIdeal.Gen.facts Cert.ReferenceIdeal.Gen.facts
    Cert.Pre_node_table.Gen.facts := by
  intro m g m' g' hpre hagree
  refine ⟨fun c => Cert.KernelIdeal.Attn.result m c, ?_, ?_⟩
  · have h := θ_run_and (Cert.KernelIdeal.Attn.value_run m g) (kernel_frame m g trivial)
    exact (θ_run Cert.KernelIdeal.defs _ _).mono (fun r hr c => ⟨hr.1 c, hr.2.1 c⟩) h
  · refine (θ_run Cert.ReferenceIdeal.defs _ _).mono (fun r hr c => ⟨(hr c).1.trans ?_, (hr c).2⟩)
      (Cert.ReferenceIdeal.Value.run (F := Ideal) m' g')
    obtain ⟨a0, a1, a2, a3, a4, a5, a6, a7, a8, a9⟩ := hagree c
    rw [Cert.ReferenceIdeal.Read.val_main_v76_eq]
    show Cert.ReferenceIdeal.Read.val_main_v76 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [a0, a1, a2, a3, a4, a5, a6, a7, a8, a9]
    exact Cert.ReferenceIdeal.Attn.value_eq (Cert.ReferenceIdeal.Attn.tables_of (fun d => d.elim0) (congrFun (hpre c) (fun d => d.elim0)))

/-- All the claims. -/
theorem claim : Cert.Claim := ⟨Cert.Kernel.Gen.facts, Cert.KernelIdeal.Gen.facts, Cert.ReferenceIdeal.Gen.facts, Cert.Pre_node_table.Gen.facts,
  printed_frame, kernel_frame, fun m g _ => kernel_frame m g trivial, reference_frame,
  fun m g _ => reference_frame m g trivial, trivial, same_result⟩

end Cert.Proof

end
